-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v26)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v82) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel) (hPre_in_range := hPre_in_range)
    ∧ quiescent_KernelIdeal (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal (hKernelIdeal := hKernelIdeal) (hReferenceIdeal := hReferenceIdeal) (hPre_in_range := hPre_in_range)
-- ==== Pre_in_range.lean ====
abbrev S1800 : Shape := ⟨1, ![1800]⟩
abbrev S4x3 : Shape := ⟨2, ![4, 3]⟩
abbrev S1800x288x128 : Shape := ⟨3, ![1800, 288, 128]⟩
abbrev S1800x144x128 : Shape := ⟨3, ![1800, 144, 128]⟩
abbrev S_ : Shape := ⟨0, ![]⟩

class Facts : Prop where
  bcast_S_S1800 : S_.BroadcastsInDim S1800 (![] : Fin 0 → Fin S1800.rank)

variable [Facts]

def fn {F : FTy → Type} [FloatOps F] (main_arg0 : IVec S1800 32) (main_arg1 : FVec F S4x3 .f32) (main_arg2 : IVec S1800x288x128 32) (main_arg3 : FVec F S1800x144x128 .f32) : IVec S1800 1 :=
  let main_c : IVec S_ 32 := constantI S_ 32 1#32
  let main_v0 : IVec S1800 32 := broadcastInDim S1800 ![] bcast_S_S1800 main_c
  let main_v1 : IVec S1800 1 := cmpi .sge main_arg0 main_v0
  let main_c_0 : IVec S_ 32 := constantI S_ 32 18#32
  let main_v2 : IVec S1800 32 := broadcastInDim S1800 ![] bcast_S_S1800 main_c_0
  let main_v3 : IVec S1800 1 := cmpi .sle main_arg0 main_v2
  let main_v4 : IVec S1800 1 := andi main_v1 main_v3
  main_v4
-- ==== Kernel.lean ====
abbrev S1800 : Shape := ⟨1, ![1800]⟩
abbrev S4x3 : Shape := ⟨2, ![4, 3]⟩
abbrev S1800x288x128 : Shape := ⟨3, ![1800, 288, 128]⟩
abbrev S1800x144x128 : Shape := ⟨3, ![1800, 144, 128]⟩
abbrev S256 : Shape := ⟨1, ![256]⟩
abbrev S_ : Shape := ⟨0, ![]⟩
abbrev S1x256 : Shape := ⟨2, ![1, 256]⟩
abbrev S6x256 : Shape := ⟨2, ![6, 256]⟩
abbrev S6x1x256 : Shape := ⟨3, ![6, 1, 256]⟩
abbrev S6x3x256 : Shape := ⟨3, ![6, 3, 256]⟩
abbrev S18x256 : Shape := ⟨2, ![18, 256]⟩
abbrev S110x256 : Shape := ⟨2, ![110, 256]⟩
abbrev S128x256 : Shape := ⟨2, ![128, 256]⟩
abbrev S1800x4x8x256 : Shape := ⟨4, ![1800, 4, 8, 256]⟩
abbrev S25x288x128 : Shape := ⟨3, ![25, 288, 128]⟩
abbrev S25x144x128 : Shape := ⟨3, ![25, 144, 128]⟩
abbrev S25x4x8x256 : Shape := ⟨4, ![25, 4, 8, 256]⟩
abbrev S1x16x128 : Shape := ⟨3, ![1, 16, 128]⟩
abbrev S16x128 : Shape := ⟨2, ![16, 128]⟩
abbrev S32x128 : Shape := ⟨2, ![32, 128]⟩
abbrev S128x128 : Shape := ⟨2, ![128, 128]⟩
abbrev S1 : Shape := ⟨1, ![1]⟩
abbrev S8x256 : Shape := ⟨2, ![8, 256]⟩
abbrev S1x8x128 : Shape := ⟨3, ![1, 8, 128]⟩
abbrev S8x128 : Shape := ⟨2, ![8, 128]⟩
abbrev S8x1 : Shape := ⟨2, ![8, 1]⟩
abbrev S1x1 : Shape := ⟨2, ![1, 1]⟩
abbrev S1x1x8x256 : Shape := ⟨4, ![1, 1, 8, 256]⟩

abbrev nBuf : Space → Nat
  | .hbm => 72
  | .vmem => 8
  | .smem => 2
  | _ => 0

abbrev bufTy : (tb : Table) → Fin (tcTables nBuf tb) → BufTy
  | .hbm, ⟨0, _⟩ => ⟨S4x3, .f32⟩
  | .hbm, ⟨1, _⟩ => ⟨S1800x288x128, .i32⟩
  | .hbm, ⟨2, _⟩ => ⟨S1800x144x128, .f32⟩
  | .hbm, ⟨3, _⟩ => ⟨S256, .i32⟩
  | .hbm, ⟨4, _⟩ => ⟨S_, .i32⟩
  | .hbm, ⟨5, _⟩ => ⟨S_, .i32⟩
  | .hbm, ⟨6, _⟩ => ⟨S_, .i32⟩
  | .hbm, ⟨7, _⟩ => ⟨S_, .i1⟩
  | .hbm, ⟨8, _⟩ => ⟨S_, .i32⟩
  | .hbm, ⟨9, _⟩ => ⟨S_, .i32⟩
  | .hbm, ⟨10, _⟩ => ⟨S256, .i32⟩
  | .hbm, ⟨11, _⟩ => ⟨S256, .i32⟩
  | .hbm, ⟨12, _⟩ => ⟨S_, .i32⟩
  | .hbm, ⟨13, _⟩ => ⟨S256, .i32⟩
  | .hbm, ⟨14, _⟩ => ⟨S256, .i1⟩
  | .hbm, ⟨15, _⟩ => ⟨S_, .i32⟩
  | .hbm, ⟨16, _⟩ => ⟨S256, .i32⟩
  | .hbm, ⟨17, _⟩ => ⟨S256, .i1⟩
  | .hbm, ⟨18, _⟩ => ⟨S_, .i32⟩
  | .hbm, ⟨19, _⟩ => ⟨S_, .i1⟩
  | .hbm, ⟨20, _⟩ => ⟨S256, .i1⟩
  | .hbm, ⟨21, _⟩ => ⟨S256, .i1⟩
  | .hbm, ⟨22, _⟩ => ⟨S256, .i1⟩
  | .hbm, ⟨23, _⟩ => ⟨S256, .i32⟩
  | .hbm, ⟨24, _⟩ => ⟨S256, .i32⟩
  | .hbm, ⟨25, _⟩ => ⟨S256, .i32⟩
  | .hbm, ⟨26, _⟩ => ⟨S256, .f32⟩
  | .hbm, ⟨27, _⟩ => ⟨S_, .f32⟩
  | .hbm, ⟨28, _⟩ => ⟨S256, .f32⟩
  | .hbm, ⟨29, _⟩ => ⟨S256, .f32⟩
  | .hbm, ⟨30, _⟩ => ⟨S_, .i32⟩
  | .hbm, ⟨31, _⟩ => ⟨S_, .i32⟩
  | .hbm, ⟨32, _⟩ => ⟨S256, .i32⟩
  | .hbm, ⟨33, _⟩ => ⟨S256, .i32⟩
  | .hbm, ⟨34, _⟩ => ⟨S256, .i32⟩
  | .hbm, ⟨35, _⟩ => ⟨S_, .i32⟩
  | .hbm, ⟨36, _⟩ => ⟨S256, .i32⟩
  | .hbm, ⟨37, _⟩ => ⟨S256, .i1⟩
  | .hbm, ⟨38, _⟩ => ⟨S256, .i32⟩
  | .hbm, ⟨39, _⟩ => ⟨S256, .i32⟩
  | .hbm, ⟨40, _⟩ => ⟨S_, .i32⟩
  | .hbm, ⟨41, _⟩ => ⟨S256, .i32⟩
  | .hbm, ⟨42, _⟩ => ⟨S256, .i1⟩
  | .hbm, ⟨43, _⟩ => ⟨S256, .i1⟩
  | .hbm, ⟨44, _⟩ => ⟨S_, .i32⟩
  | .hbm, ⟨45, _⟩ => ⟨S256, .i32⟩
  | .hbm, ⟨46, _⟩ => ⟨S256, .i32⟩
  | .hbm, ⟨47, _⟩ => ⟨S256, .i32⟩
  | .hbm, ⟨48, _⟩ => ⟨S256, .f32⟩
  | .hbm, ⟨49, _⟩ => ⟨S_, .f32⟩
  | .hbm, ⟨50, _⟩ => ⟨S256, .f32⟩
  | .hbm, ⟨51, _⟩ => ⟨S256, .f32⟩
  | .hbm, ⟨52, _⟩ => ⟨S_, .f32⟩
  | .hbm, ⟨53, _⟩ => ⟨S256, .f32⟩
  | .hbm, ⟨54, _⟩ => ⟨S256, .f32⟩
  | .hbm, ⟨55, _⟩ => ⟨S256, .f32⟩
  | .hbm, ⟨56, _⟩ => ⟨S256, .f32⟩
  | .hbm, ⟨57, _⟩ => ⟨S1x256, .f32⟩
  | .hbm, ⟨58, _⟩ => ⟨S1x256, .f32⟩
  | .hbm, ⟨59, _⟩ => ⟨S1x256, .f32⟩
  | .hbm, ⟨60, _⟩ => ⟨S1x256, .f32⟩
  | .hbm, ⟨61, _⟩ => ⟨S1x256, .f32⟩
  | .hbm, ⟨62, _⟩ => ⟨S1x256, .f32⟩
  | .hbm, ⟨63, _⟩ => ⟨S6x256, .f32⟩
  | .hbm, ⟨64, _⟩ => ⟨S6x1x256, .f32⟩
  | .hbm, ⟨65, _⟩ => ⟨S6x3x256, .f32⟩
  | .hbm, ⟨66, _⟩ => ⟨S18x256, .f32⟩
  | .hbm, ⟨67, _⟩ => ⟨S_, .f32⟩
  | .hbm, ⟨68, _⟩ => ⟨S110x256, .f32⟩
  | .hbm, ⟨69, _⟩ => ⟨S128x256, .f32⟩
  | .hbm, ⟨70, _⟩ => ⟨S128x256, .bf16⟩
  | .hbm, ⟨71, _⟩ => ⟨S1800x4x8x256, .f32⟩
  | .local _ .vmem, ⟨0, _⟩ => ⟨S25x288x128, .i32⟩
  | .local _ .vmem, ⟨1, _⟩ => ⟨S25x288x128, .i32⟩
  | .local _ .vmem, ⟨2, _⟩ => ⟨S25x144x128, .f32⟩
  | .local _ .vmem, ⟨3, _⟩ => ⟨S25x144x128, .f32⟩
  | .local _ .vmem, ⟨4, _⟩ => ⟨S128x256, .bf16⟩
  | .local _ .vmem, ⟨5, _⟩ => ⟨S25x4x8x256, .f32⟩
  | .local _ .vmem, ⟨6, _⟩ => ⟨S25x4x8x256, .f32⟩
  | .local _ .vmem, ⟨7, _⟩ => ⟨S128x256, .f32⟩
  | .local _ .smem, ⟨0, _⟩ => ⟨S1800, .i32⟩
  | .local _ .smem, ⟨1, _⟩ => ⟨S4x3, .f32⟩
  | _, _ => ⟨S4x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .smem, ⟨1, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_v0 : Ref sig .tc := ⟨.hbm, 3, rfl⟩
abbrev main_c : Ref sig .tc := ⟨.hbm, 4, rfl⟩
abbrev main_call0_v0 : Ref sig .tc := ⟨.hbm, 5, rfl⟩
abbrev main_call0_c : Ref sig .tc := ⟨.hbm, 6, rfl⟩
abbrev main_call0_v1 : Ref sig .tc := ⟨.hbm, 7, rfl⟩
abbrev main_call0_c_0 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_c_1 : Ref sig .tc := ⟨.hbm, 12, rfl⟩
abbrev main_call0_v5 : Ref sig .tc := ⟨.hbm, 13, rfl⟩
abbrev main_call0_v6 : Ref sig .tc := ⟨.hbm, 14, rfl⟩
abbrev main_call0_c_2 : Ref sig .tc := ⟨.hbm, 15, rfl⟩
abbrev main_call0_v7 : Ref sig .tc := ⟨.hbm, 16, rfl⟩
abbrev main_call0_v8 : Ref sig .tc := ⟨.hbm, 17, rfl⟩
abbrev main_call0_c_3 : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_v12 : Ref sig .tc := ⟨.hbm, 22, rfl⟩
abbrev main_call0_v13 : Ref sig .tc := ⟨.hbm, 23, rfl⟩
abbrev main_call0_v14 : Ref sig .tc := ⟨.hbm, 24, rfl⟩
abbrev main_v1 : Ref sig .tc := ⟨.hbm, 25, rfl⟩
abbrev main_v2 : Ref sig .tc := ⟨.hbm, 26, rfl⟩
abbrev main_cst : Ref sig .tc := ⟨.hbm, 27, rfl⟩
abbrev main_v3 : Ref sig .tc := ⟨.hbm, 28, rfl⟩
abbrev main_v4 : Ref sig .tc := ⟨.hbm, 29, rfl⟩
abbrev main_c_0 : Ref sig .tc := ⟨.hbm, 30, rfl⟩
abbrev main_call1_v0 : Ref sig .tc := ⟨.hbm, 31, rfl⟩
abbrev main_call1_v1 : Ref sig .tc := ⟨.hbm, 32, rfl⟩
abbrev main_call1_v2 : Ref sig .tc := ⟨.hbm, 33, rfl⟩
abbrev main_call1_v3 : Ref sig .tc := ⟨.hbm, 34, rfl⟩
abbrev main_call1_v4 : Ref sig .tc := ⟨.hbm, 35, rfl⟩
abbrev main_call1_v5 : Ref sig .tc := ⟨.hbm, 36, rfl⟩
abbrev main_call1_v6 : Ref sig .tc := ⟨.hbm, 37, rfl⟩
abbrev main_call1_v7 : Ref sig .tc := ⟨.hbm, 38, rfl⟩
abbrev main_call1_v8 : Ref sig .tc := ⟨.hbm, 39, rfl⟩
abbrev main_call1_c : Ref sig .tc := ⟨.hbm, 40, rfl⟩
abbrev main_call1_v9 : Ref sig .tc := ⟨.hbm, 41, rfl⟩
abbrev main_call1_v10 : Ref sig .tc := ⟨.hbm, 42, rfl⟩
abbrev main_call1_v11 : Ref sig .tc := ⟨.hbm, 43, rfl⟩
abbrev main_call1_c_0 : Ref sig .tc := ⟨.hbm, 44, rfl⟩
abbrev main_call1_v12 : Ref sig .tc := ⟨.hbm, 45, rfl⟩
abbrev main_call1_v13 : Ref sig .tc := ⟨.hbm, 46, rfl⟩
abbrev main_v5 : Ref sig .tc := ⟨.hbm, 47, rfl⟩
abbrev main_v6 : Ref sig .tc := ⟨.hbm, 48, rfl⟩
abbrev main_cst_1 : Ref sig .tc := ⟨.hbm, 49, rfl⟩
abbrev main_v7 : Ref sig .tc := ⟨.hbm, 50, rfl⟩
abbrev main_v8 : Ref sig .tc := ⟨.hbm, 51, rfl⟩
abbrev main_cst_2 : Ref sig .tc := ⟨.hbm, 52, rfl⟩
abbrev main_v9 : Ref sig .tc := ⟨.hbm, 53, rfl⟩
abbrev main_v10 : Ref sig .tc := ⟨.hbm, 54, rfl⟩
abbrev main_v11 : Ref sig .tc := ⟨.hbm, 55, rfl⟩
abbrev main_v12 : Ref sig .tc := ⟨.hbm, 56, rfl⟩
abbrev main_v13 : Ref sig .tc := ⟨.hbm, 57, rfl⟩
abbrev main_v14 : Ref sig .tc := ⟨.hbm, 58, rfl⟩
abbrev main_v15 : Ref sig .tc := ⟨.hbm, 59, rfl⟩
abbrev main_v16 : Ref sig .tc := ⟨.hbm, 60, rfl⟩
abbrev main_v17 : Ref sig .tc := ⟨.hbm, 61, rfl⟩
abbrev main_v18 : Ref sig .tc := ⟨.hbm, 62, rfl⟩
abbrev main_v19 : Ref sig .tc := ⟨.hbm, 63, rfl⟩
abbrev main_v20 : Ref sig .tc := ⟨.hbm, 64, rfl⟩
abbrev main_v21 : Ref sig .tc := ⟨.hbm, 65, rfl⟩
abbrev main_v22 : Ref sig .tc := ⟨.hbm, 66, rfl⟩
abbrev main_cst_3 : Ref sig .tc := ⟨.hbm, 67, rfl⟩
abbrev main_v23 : Ref sig .tc := ⟨.hbm, 68, rfl⟩
abbrev main_v24 : Ref sig .tc := ⟨.hbm, 69, rfl⟩
abbrev main_v25 : Ref sig .tc := ⟨.hbm, 70, rfl⟩
abbrev main_v26 : Ref sig .tc := ⟨.hbm, 71, rfl⟩
abbrev main_arg0 : Ref sig .tc := ⟨.smem, 0, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_scratch0 : Ref sig .tc := ⟨.vmem, 7, rfl⟩
abbrev cc0_stg0_0 : Ref sig .tc := ⟨.smem, 1, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![72], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

@[reducible] def k0_t1_loop : Scf.Loop 32 :=
  let c0_i32_10 : BitVec 32 := 0#32
  let c25_i32 : BitVec 32 := 25#32
  let v33 : BitVec 32 := Scalar.addi c0_i32_10 c25_i32
  let c1_i32_11 : BitVec 32 := 1#32
  ⟨c0_i32_10, v33, c1_i32_11⟩
def k0_off1 (i : grid0.Coords) (k0_t1 : Fin k0_t1_loop.trips) : Fin 1 → Nat :=
  let arg0 : BitVec 32 := BitVec.ofNat 32 (i 0).val
  let c25_i32_13 : BitVec 32 := 25#32
  let v34 : BitVec 32 := Scalar.muli arg0 c25_i32_13
  let c0_i32_10 : BitVec 32 := 0#32
  let c1_i32_11 : BitVec 32 := 1#32
  let arg8 : BitVec 32 := Scf.iv c0_i32_10 c1_i32_11 k0_t1
  let v35 : BitVec 32 := Scalar.addi v34 arg8
  let v36 : Index := Scalar.indexCast v35
  ![v36.toNat]
@[reducible] def k0_t2_loop (v37 : BitVec 32) : Scf.Loop 32 :=
  let c0_i32_16 : BitVec 32 := 0#32
  let v40 : BitVec 32 := Scalar.subi v37 c0_i32_16
  let c1_i32_17 : BitVec 32 := 1#32
  let v42 : BitVec 32 := Scalar.divsi v40 c1_i32_17
  let v43 : BitVec 32 := Scalar.muli v42 c1_i32_17
  let v44 : BitVec 32 := Scalar.addi c0_i32_16 v43
  let c1_i32_18 : BitVec 32 := 1#32
  ⟨c0_i32_16, v44, c1_i32_18⟩

def k0_off2 (k0_t1 : Fin k0_t1_loop.trips) (v37 : BitVec 32) (k0_t2 : Fin (k0_t2_loop v37).trips) : Fin 3 → Nat :=
  let c0_i32_16 : BitVec 32 := 0#32
  let c1_i32_18 : BitVec 32 := 1#32
  let arg9 : BitVec 32 := Scf.iv c0_i32_16 c1_i32_18 k0_t2
  let c1_i32_36 : BitVec 32 := 1#32
  let v88 : BitVec 32 := Scalar.addi arg9 c1_i32_36
  let v89 : BitVec 1 := Scalar.cmpi .sge v88 v37
  let c0_i32_10 : BitVec 32 := 0#32
  let c1_i32_11 : BitVec 32 := 1#32
  let arg8 : BitVec 32 := Scf.iv c0_i32_10 c1_i32_11 k0_t1
  let c1_i32_37 : BitVec 32 := 1#32
  let v90 : BitVec 32 := Scalar.addi arg8 c1_i32_37
  let v91 : BitVec 32 := Scalar.select v89 v90 arg8
  let c24_i32 : BitVec 32 := 24#32
  let v92 : BitVec 32 := Scalar.minsi v91 c24_i32
  let v96 : Index := Scalar.indexCast v92
  let c0_i32_39 : BitVec 32 := 0#32
  let c1_i32_38 : BitVec 32 := 1#32
  let v93 : BitVec 32 := Scalar.addi arg9 c1_i32_38
  let v94 : BitVec 32 := Scalar.select v89 c0_i32_39 v93
  let c16_i32 : BitVec 32 := 16#32
  let v95 : BitVec 32 := Scalar.muli v94 c16_i32
  let v97 : Index := Scalar.indexCast v95
  let c0_40 : Index := 0#32
  ![v96.toNat, v97.toNat, 0]
def k0_off3 (k0_t1 : Fin k0_t1_loop.trips) (v37 : BitVec 32) (k0_t2 : Fin (k0_t2_loop v37).trips) : Fin 3 → Nat :=
  let c0_i32_10 : BitVec 32 := 0#32
  let c1_i32_11 : BitVec 32 := 1#32
  let arg8 : BitVec 32 := Scf.iv c0_i32_10 c1_i32_11 k0_t1
  let v112 : Index := Scalar.indexCast arg8
  let c0_i32_16 : BitVec 32 := 0#32
  let c1_i32_18 : BitVec 32 := 1#32
  let arg9 : BitVec 32 := Scf.iv c0_i32_16 c1_i32_18 k0_t2
  let c8_i32 : BitVec 32 := 8#32
  let v111 : BitVec 32 := Scalar.muli arg9 c8_i32
  let v113 : Index := Scalar.indexCast v111
  let c0_47 : Index := 0#32
  ![v112.toNat, v113.toNat, 0]
@[reducible] def k0_t3_loop (v37 : BitVec 32) : Scf.Loop 32 :=
  let c0_i32_16 : BitVec 32 := 0#32
  let v40 : BitVec 32 := Scalar.subi v37 c0_i32_16
  let c1_i32_17 : BitVec 32 := 1#32
  let v42 : BitVec 32 := Scalar.divsi v40 c1_i32_17
  let v43 : BitVec 32 := Scalar.muli v42 c1_i32_17
  let v44 : BitVec 32 := Scalar.addi c0_i32_16 v43
  let v41 : BitVec 32 := Scalar.addi c0_i32_16 v40
  let c1_i32_19 : BitVec 32 := 1#32
  ⟨v44, v41, c1_i32_19⟩
def k0_off4 (k0_t1 : Fin k0_t1_loop.trips) (v37 : BitVec 32) (k0_t3 : Fin (k0_t3_loop v37).trips) : Fin 3 → Nat :=
  let c0_i32_16 : BitVec 32 := 0#32
  let v40 : BitVec 32 := Scalar.subi v37 c0_i32_16
  let c1_i32_17 : BitVec 32 := 1#32
  let v42 : BitVec 32 := Scalar.divsi v40 c1_i32_17
  let v43 : BitVec 32 := Scalar.muli v42 c1_i32_17
  let v44 : BitVec 32 := Scalar.addi c0_i32_16 v43
  let c1_i32_19 : BitVec 32 := 1#32
  let arg9 : BitVec 32 := Scf.iv v44 c1_i32_19 k0_t3
  let c1_i32_36 : BitVec 32 := 1#32
  let v88 : BitVec 32 := Scalar.addi arg9 c1_i32_36
  let v89 : BitVec 1 := Scalar.cmpi .sge v88 v37
  let c0_i32_10 : BitVec 32 := 0#32
  let c1_i32_11 : BitVec 32 := 1#32
  let arg8 : BitVec 32 := Scf.iv c0_i32_10 c1_i32_11 k0_t1
  let c1_i32_37 : BitVec 32 := 1#32
  let v90 : BitVec 32 := Scalar.addi arg8 c1_i32_37
  let v91 : BitVec 32 := Scalar.select v89 v90 arg8
  let c24_i32 : BitVec 32 := 24#32
  let v92 : BitVec 32 := Scalar.minsi v91 c24_i32
  let v96 : Index := Scalar.indexCast v92
  let c0_i32_39 : BitVec 32 := 0#32
  let c1_i32_38 : BitVec 32 := 1#32
  let v93 : BitVec 32 := Scalar.addi arg9 c1_i32_38
  let v94 : BitVec 32 := Scalar.select v89 c0_i32_39 v93
  let c16_i32 : BitVec 32 := 16#32
  let v95 : BitVec 32 := Scalar.muli v94 c16_i32
  let v97 : Index := Scalar.indexCast v95
  let c0_40 : Index := 0#32
  ![v96.toNat, v97.toNat, 0]
def k0_off5 (k0_t1 : Fin k0_t1_loop.trips) (v37 : BitVec 32) (k0_t3 : Fin (k0_t3_loop v37).trips) : Fin 3 → Nat :=
  let c0_i32_10 : BitVec 32 := 0#32
  let c1_i32_11 : BitVec 32 := 1#32
  let arg8 : BitVec 32 := Scf.iv c0_i32_10 c1_i32_11 k0_t1
  let v112 : Index := Scalar.indexCast arg8
  let c0_i32_16 : BitVec 32 := 0#32
  let v40 : BitVec 32 := Scalar.subi v37 c0_i32_16
  let c1_i32_17 : BitVec 32 := 1#32
  let v42 : BitVec 32 := Scalar.divsi v40 c1_i32_17
  let v43 : BitVec 32 := Scalar.muli v42 c1_i32_17
  let v44 : BitVec 32 := Scalar.addi c0_i32_16 v43
  let c1_i32_19 : BitVec 32 := 1#32
  let arg9 : BitVec 32 := Scf.iv v44 c1_i32_19 k0_t3
  let c8_i32 : BitVec 32 := 8#32
  let v111 : BitVec 32 := Scalar.muli arg9 c8_i32
  let v113 : Index := Scalar.indexCast v111
  let c0_47 : Index := 0#32
  ![v112.toNat, v113.toNat, 0]

def k0_chk1 (k0_t1 : Fin k0_t1_loop.trips) (v37 : BitVec 32) : Prop :=
  ((k0_t2_loop v37).OK) ∧
  (∀ k0_t2 : Fin (k0_t2_loop v37).trips, ∀ a, (k0_off2 k0_t1 v37 k0_t2) a + S1x16x128.size a ≤ S25x288x128.size a) ∧
  (∀ k0_t2 : Fin (k0_t2_loop v37).trips, ∀ a, (k0_off3 k0_t1 v37 k0_t2) a + S1x8x128.size a ≤ S25x144x128.size a) ∧
  ((k0_t3_loop v37).OK) ∧
  (∀ k0_t3 : Fin (k0_t3_loop v37).trips, ∀ a, (k0_off4 k0_t1 v37 k0_t3) a + S1x16x128.size a ≤ S25x288x128.size a) ∧
  (∀ k0_t3 : Fin (k0_t3_loop v37).trips, ∀ a, (k0_off5 k0_t1 v37 k0_t3) a + S1x8x128.size a ≤ S25x144x128.size a)
theorem k0_t2_ok : ∀ (k0_t1 : Fin k0_t1_loop.trips) (v37 : BitVec 32) (k0_hw1 : k0_chk1 k0_t1 v37), (k0_t2_loop v37).OK := fun k0_t1 v37 k0_hw1 => k0_hw1.1
theorem k0_off2_inb : ∀ (k0_t1 : Fin k0_t1_loop.trips) (v37 : BitVec 32) (k0_hw1 : k0_chk1 k0_t1 v37) (k0_t2 : Fin (k0_t2_loop v37).trips), ∀ a, (k0_off2 k0_t1 v37 k0_t2) a + S1x16x128.size a ≤ S25x288x128.size a := fun k0_t1 v37 k0_hw1 k0_t2 => k0_hw1.2.1 k0_t2
theorem k0_off3_inb : ∀ (k0_t1 : Fin k0_t1_loop.trips) (v37 : BitVec 32) (k0_hw1 : k0_chk1 k0_t1 v37) (k0_t2 : Fin (k0_t2_loop v37).trips), ∀ a, (k0_off3 k0_t1 v37 k0_t2) a + S1x8x128.size a ≤ S25x144x128.size a := fun k0_t1 v37 k0_hw1 k0_t2 => k0_hw1.2.2.1 k0_t2
theorem k0_t3_ok : ∀ (k0_t1 : Fin k0_t1_loop.trips) (v37 : BitVec 32) (k0_hw1 : k0_chk1 k0_t1 v37), (k0_t3_loop v37).OK := fun k0_t1 v37 k0_hw1 => k0_hw1.2.2.2.1
theorem k0_off4_inb : ∀ (k0_t1 : Fin k0_t1_loop.trips) (v37 : BitVec 32) (k0_hw1 : k0_chk1 k0_t1 v37) (k0_t3 : Fin (k0_t3_loop v37).trips), ∀ a, (k0_off4 k0_t1 v37 k0_t3) a + S1x16x128.size a ≤ S25x288x128.size a := fun k0_t1 v37 k0_hw1 k0_t3 => k0_hw1.2.2.2.2.1 k0_t3
theorem k0_off5_inb : ∀ (k0_t1 : Fin k0_t1_loop.trips) (v37 : BitVec 32) (k0_hw1 : k0_chk1 k0_t1 v37) (k0_t3 : Fin (k0_t3_loop v37).trips), ∀ a, (k0_off5 k0_t1 v37 k0_t3) a + S1x8x128.size a ≤ S25x144x128.size a := fun k0_t1 v37 k0_hw1 k0_t3 => k0_hw1.2.2.2.2.2 k0_t3

def k0_off6 (i : grid0.Coords) : Fin 2 → Nat :=
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c18_i32 : BitVec 32 := 18#32
  let c0_i32_1 : BitVec 32 := 0#32
  let v6 : BitVec 1 := Scalar.cmpi .sgt c18_i32 c0_i32_1
  let v7 : BitVec 32 := Scalar.extui v6
  let c0_i32_2 : BitVec 32 := 0#32
  let v8 : BitVec 1 := Scalar.cmpi .slt c18_i32 c0_i32_2
  let v9 : BitVec 32 := Scalar.extui v8
  let v10 : BitVec 32 := Scalar.subi v7 v9
  let v11 : BitVec 1 := Scalar.cmpi .ne v5 v10
  let v12 : BitVec 32 := Scalar.remsi arg0 c18_i32
  let c0_i32_3 : BitVec 32 := 0#32
  let v13 : BitVec 1 := Scalar.cmpi .ne v12 c0_i32_3
  let v14 : BitVec 1 := Scalar.andi v11 v13
  let v0 : BitVec 32 := Scalar.divsi arg0 c18_i32
  let c1_i32 : BitVec 32 := 1#32
  let v15 : BitVec 32 := Scalar.subi v0 c1_i32
  let v16 : BitVec 32 := Scalar.select v14 v15 v0
  let v47 : Index := Scalar.indexCast v16
  let c0_20 : Index := 0#32
  ![v47.toNat, 0]
def k0_off7 (k0_t1 : Fin k0_t1_loop.trips) : Fin 4 → Nat :=
  let c0_i32_10 : BitVec 32 := 0#32
  let c1_i32_11 : BitVec 32 := 1#32
  let arg8 : BitVec 32 := Scf.iv c0_i32_10 c1_i32_11 k0_t1
  let v52 : Index := Scalar.indexCast arg8
  let c0_21 : Index := 0#32
  let c0_22 : Index := 0#32
  let c0_23 : Index := 0#32
  ![v52.toNat, 0, 0, 0]
def k0_off8 (i : grid0.Coords) : Fin 2 → Nat :=
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c18_i32 : BitVec 32 := 18#32
  let c0_i32_1 : BitVec 32 := 0#32
  let v6 : BitVec 1 := Scalar.cmpi .sgt c18_i32 c0_i32_1
  let v7 : BitVec 32 := Scalar.extui v6
  let c0_i32_2 : BitVec 32 := 0#32
  let v8 : BitVec 1 := Scalar.cmpi .slt c18_i32 c0_i32_2
  let v9 : BitVec 32 := Scalar.extui v8
  let v10 : BitVec 32 := Scalar.subi v7 v9
  let v11 : BitVec 1 := Scalar.cmpi .ne v5 v10
  let v12 : BitVec 32 := Scalar.remsi arg0 c18_i32
  let c0_i32_3 : BitVec 32 := 0#32
  let v13 : BitVec 1 := Scalar.cmpi .ne v12 c0_i32_3
  let v14 : BitVec 1 := Scalar.andi v11 v13
  let v0 : BitVec 32 := Scalar.divsi arg0 c18_i32
  let c1_i32 : BitVec 32 := 1#32
  let v15 : BitVec 32 := Scalar.subi v0 c1_i32
  let v16 : BitVec 32 := Scalar.select v14 v15 v0
  let v56 : Index := Scalar.indexCast v16
  let c1 : Index := 1#32
  ![v56.toNat, 1]
def k0_off9 (k0_t1 : Fin k0_t1_loop.trips) : Fin 4 → Nat :=
  let c0_i32_10 : BitVec 32 := 0#32
  let c1_i32_11 : BitVec 32 := 1#32
  let arg8 : BitVec 32 := Scf.iv c0_i32_10 c1_i32_11 k0_t1
  let v61 : Index := Scalar.indexCast arg8
  let c1_24 : Index := 1#32
  let c0_25 : Index := 0#32
  let c0_26 : Index := 0#32
  ![v61.toNat, 1, 0, 0]
def k0_off10 (i : grid0.Coords) : Fin 2 → Nat :=
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c18_i32 : BitVec 32 := 18#32
  let c0_i32_1 : BitVec 32 := 0#32
  let v6 : BitVec 1 := Scalar.cmpi .sgt c18_i32 c0_i32_1
  let v7 : BitVec 32 := Scalar.extui v6
  let c0_i32_2 : BitVec 32 := 0#32
  let v8 : BitVec 1 := Scalar.cmpi .slt c18_i32 c0_i32_2
  let v9 : BitVec 32 := Scalar.extui v8
  let v10 : BitVec 32 := Scalar.subi v7 v9
  let v11 : BitVec 1 := Scalar.cmpi .ne v5 v10
  let v12 : BitVec 32 := Scalar.remsi arg0 c18_i32
  let c0_i32_3 : BitVec 32 := 0#32
  let v13 : BitVec 1 := Scalar.cmpi .ne v12 c0_i32_3
  let v14 : BitVec 1 := Scalar.andi v11 v13
  let v0 : BitVec 32 := Scalar.divsi arg0 c18_i32
  let c1_i32 : BitVec 32 := 1#32
  let v15 : BitVec 32 := Scalar.subi v0 c1_i32
  let v16 : BitVec 32 := Scalar.select v14 v15 v0
  let v65 : Index := Scalar.indexCast v16
  let c2 : Index := 2#32
  ![v65.toNat, 2]
def k0_off11 (k0_t1 : Fin k0_t1_loop.trips) : Fin 4 → Nat :=
  let c0_i32_10 : BitVec 32 := 0#32
  let c1_i32_11 : BitVec 32 := 1#32
  let arg8 : BitVec 32 := Scf.iv c0_i32_10 c1_i32_11 k0_t1
  let v70 : Index := Scalar.indexCast arg8
  let c2_27 : Index := 2#32
  let c0_28 : Index := 0#32
  let c0_29 : Index := 0#32
  ![v70.toNat, 2, 0, 0]
def k0_off12 (k0_t1 : Fin k0_t1_loop.trips) : Fin 4 → Nat :=
  let c0_i32_10 : BitVec 32 := 0#32
  let c1_i32_11 : BitVec 32 := 1#32
  let arg8 : BitVec 32 := Scf.iv c0_i32_10 c1_i32_11 k0_t1
  let v84 : Index := Scalar.indexCast arg8
  let c3 : Index := 3#32
  let c0_34 : Index := 0#32
  let c0_35 : Index := 0#32
  ![v84.toNat, 3, 0, 0]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 1 → Memref sig .tc .smem S4x3 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S25x288x128 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S25x144x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S25x4x8x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceIdeal.lean ====
abbrev S1800 : Shape := ⟨1, ![1800]⟩
abbrev S4x3 : Shape := ⟨2, ![4, 3]⟩
abbrev S1800x288x128 : Shape := ⟨3, ![1800, 288, 128]⟩
abbrev S1800x144x128 : Shape := ⟨3, ![1800, 144, 128]⟩
abbrev S_ : Shape := ⟨0, ![]⟩
abbrev S1800x288x128x1 : Shape := ⟨4, ![1800, 288, 128, 1]⟩
abbrev S1800x288x128x2 : Shape := ⟨4, ![1800, 288, 128, 2]⟩
abbrev S1800x72x4x4x32x2 : Shape := ⟨6, ![1800, 72, 4, 4, 32, 2]⟩
abbrev S1800x72x4x4x18x2 : Shape := ⟨6, ![1800, 72, 4, 4, 18, 2]⟩
abbrev S1800x4x2x72x4x18 : Shape := ⟨6, ![1800, 4, 2, 72, 4, 18]⟩
abbrev S1800x8x288x18 : Shape := ⟨4, ![1800, 8, 288, 18]⟩
abbrev S256 : Shape := ⟨1, ![256]⟩
abbrev S1x256 : Shape := ⟨2, ![1, 256]⟩
abbrev S6x256 : Shape := ⟨2, ![6, 256]⟩
abbrev S6x1x256 : Shape := ⟨3, ![6, 1, 256]⟩
abbrev S6x3x256 : Shape := ⟨3, ![6, 3, 256]⟩
abbrev S18x256 : Shape := ⟨2, ![18, 256]⟩
abbrev S1800x8x288x256 : Shape := ⟨4, ![1800, 8, 288, 256]⟩
abbrev S288 : Shape := ⟨1, ![288]⟩
abbrev S1x288 : Shape := ⟨2, ![1, 288]⟩
abbrev S1800x1 : Shape := ⟨2, ![1800, 1]⟩
abbrev S1800x288 : Shape := ⟨2, ![1800, 288]⟩
abbrev S1800x1x288x1 : Shape := ⟨4, ![1800, 1, 288, 1]⟩
abbrev S288x1 : Shape := ⟨2, ![288, 1]⟩
abbrev S288x288 : Shape := ⟨2, ![288, 288]⟩
abbrev S288x1800x8x256 : Shape := ⟨4, ![288, 1800, 8, 256]⟩
abbrev S1800x18x8x128 : Shape := ⟨4, ![1800, 18, 8, 128]⟩
abbrev S1800x18x8x48 : Shape := ⟨4, ![1800, 18, 8, 48]⟩
abbrev S1800x18x8x3x16 : Shape := ⟨5, ![1800, 18, 8, 3, 16]⟩
abbrev S1800x8x18x16x3 : Shape := ⟨5, ![1800, 8, 18, 16, 3]⟩
abbrev S1800x8x288x3 : Shape := ⟨4, ![1800, 8, 288, 3]⟩
abbrev S1800x8x3x256 : Shape := ⟨4, ![1800, 8, 3, 256]⟩
abbrev S1800x3x8x256 : Shape := ⟨4, ![1800, 3, 8, 256]⟩
abbrev S1800x8x256 : Shape := ⟨3, ![1800, 8, 256]⟩
abbrev S4x450x3 : Shape := ⟨3, ![4, 450, 3]⟩
abbrev S1800x3 : Shape := ⟨2, ![1800, 3]⟩
abbrev S1800x1x8x256 : Shape := ⟨4, ![1800, 1, 8, 256]⟩
abbrev S1800x3x1x1 : Shape := ⟨4, ![1800, 3, 1, 1]⟩
abbrev S1800x4x8x256 : Shape := ⟨4, ![1800, 4, 8, 256]⟩

abbrev nBuf : Space → Nat
  | .hbm => 138
  | .vmem => 0
  | .smem => 0
  | _ => 0

abbrev hbmTy0_0 (i : Nat) : BufTy := match i % 128 with
  | 0 => ⟨S1800, .i32⟩
  | 1 => ⟨S4x3, .f32⟩
  | 2 => ⟨S1800x288x128, .i32⟩
  | 3 => ⟨S1800x144x128, .f32⟩
  | 4 => ⟨S_, .i32⟩
  | 5 => ⟨S1800x288x128, .i32⟩
  | 6 => ⟨S1800x288x128, .i32⟩
  | 7 => ⟨S1800x288x128, .f32⟩
  | 8 => ⟨S_, .i32⟩
  | 9 => ⟨S1800x288x128, .i32⟩
  | 10 => ⟨S1800x288x128, .i32⟩
  | 11 => ⟨S1800x288x128, .f32⟩
  | 12 => ⟨S1800x288x128x1, .f32⟩
  | 13 => ⟨S1800x288x128x1, .f32⟩
  | 14 => ⟨S1800x288x128x2, .f32⟩
  | 15 => ⟨S1800x72x4x4x32x2, .f32⟩
  | 16 => ⟨S1800x72x4x4x18x2, .f32⟩
  | 17 => ⟨S1800x4x2x72x4x18, .f32⟩
  | 18 => ⟨S1800x8x288x18, .f32⟩
  | 19 => ⟨S256, .i32⟩
  | 20 => ⟨S_, .i32⟩
  | 21 => ⟨S_, .i32⟩
  | 22 => ⟨S_, .i32⟩
  | 23 => ⟨S_, .i1⟩
  | 24 => ⟨S_, .i32⟩
  | 25 => ⟨S_, .i32⟩
  | 26 => ⟨S256, .i32⟩
  | 27 => ⟨S256, .i32⟩
  | 28 => ⟨S_, .i32⟩
  | 29 => ⟨S256, .i32⟩
  | 30 => ⟨S256, .i1⟩
  | 31 => ⟨S_, .i32⟩
  | 32 => ⟨S256, .i32⟩
  | 33 => ⟨S256, .i1⟩
  | 34 => ⟨S_, .i32⟩
  | 35 => ⟨S_, .i1⟩
  | 36 => ⟨S256, .i1⟩
  | 37 => ⟨S256, .i1⟩
  | 38 => ⟨S256, .i1⟩
  | 39 => ⟨S256, .i32⟩
  | 40 => ⟨S256, .i32⟩
  | 41 => ⟨S256, .i32⟩
  | 42 => ⟨S256, .f32⟩
  | 43 => ⟨S_, .f32⟩
  | 44 => ⟨S256, .f32⟩
  | 45 => ⟨S256, .f32⟩
  | 46 => ⟨S_, .i32⟩
  | 47 => ⟨S_, .i32⟩
  | 48 => ⟨S256, .i32⟩
  | 49 => ⟨S256, .i32⟩
  | 50 => ⟨S256, .i32⟩
  | 51 => ⟨S_, .i32⟩
  | 52 => ⟨S256, .i32⟩
  | 53 => ⟨S256, .i1⟩
  | 54 => ⟨S256, .i32⟩
  | 55 => ⟨S256, .i32⟩
  | 56 => ⟨S_, .i32⟩
  | 57 => ⟨S256, .i32⟩
  | 58 => ⟨S256, .i1⟩
  | 59 => ⟨S256, .i1⟩
  | 60 => ⟨S_, .i32⟩
  | 61 => ⟨S256, .i32⟩
  | 62 => ⟨S256, .i32⟩
  | 63 => ⟨S256, .i32⟩
  | 64 => ⟨S256, .f32⟩
  | 65 => ⟨S_, .f32⟩
  | 66 => ⟨S256, .f32⟩
  | 67 => ⟨S256, .f32⟩
  | 68 => ⟨S_, .f32⟩
  | 69 => ⟨S256, .f32⟩
  | 70 => ⟨S256, .f32⟩
  | 71 => ⟨S256, .f32⟩
  | 72 => ⟨S256, .f32⟩
  | 73 => ⟨S1x256, .f32⟩
  | 74 => ⟨S1x256, .f32⟩
  | 75 => ⟨S1x256, .f32⟩
  | 76 => ⟨S1x256, .f32⟩
  | 77 => ⟨S1x256, .f32⟩
  | 78 => ⟨S1x256, .f32⟩
  | 79 => ⟨S6x256, .f32⟩
  | 80 => ⟨S6x1x256, .f32⟩
  | 81 => ⟨S6x3x256, .f32⟩
  | 82 => ⟨S18x256, .f32⟩
  | 83 => ⟨S1800x8x288x256, .f32⟩
  | 84 => ⟨S288, .i32⟩
  | 85 => ⟨S1x288, .i32⟩
  | 86 => ⟨S1800x1, .i32⟩
  | 87 => ⟨S_, .i32⟩
  | 88 => ⟨S1800x1, .i32⟩
  | 89 => ⟨S1800x1, .i32⟩
  | 90 => ⟨S1800x288, .i32⟩
  | 91 => ⟨S1800x288, .i32⟩
  | 92 => ⟨S1800x288, .i1⟩
  | 93 => ⟨S_, .f32⟩
  | 94 => ⟨S1800x8x288x256, .f32⟩
  | 95 => ⟨S1800x8x288x256, .f32⟩
  | 96 => ⟨S_, .f32⟩
  | 97 => ⟨S1800x8x288x256, .f32⟩
  | 98 => ⟨S1800x8x288x256, .f32⟩
  | 99 => ⟨S1800x1x288x1, .i1⟩
  | 100 => ⟨S_, .f32⟩
  | 101 => ⟨S_, .f32⟩
  | 102 => ⟨S1800x8x288x256, .i1⟩
  | 103 => ⟨S1800x8x288x256, .f32⟩
  | 104 => ⟨S1800x8x288x256, .f32⟩
  | 105 => ⟨S1800x8x288x256, .f32⟩
  | 106 => ⟨S1800x8x288x256, .f32⟩
  | 107 => ⟨S288, .i32⟩
  | 108 => ⟨S288x1, .i32⟩
  | 109 => ⟨S1x288, .i32⟩
  | 110 => ⟨S288x288, .i32⟩
  | 111 => ⟨S288x288, .i32⟩
  | 112 => ⟨S288x288, .i1⟩
  | 113 => ⟨S288x288, .f32⟩
  | 114 => ⟨S288x1800x8x256, .f32⟩
  | 115 => ⟨S1800x8x288x256, .f32⟩
  | 116 => ⟨S1800x8x288x256, .f32⟩
  | 117 => ⟨S1800x8x288x256, .f32⟩
  | 118 => ⟨S1800x18x8x128, .f32⟩
  | 119 => ⟨S1800x18x8x48, .f32⟩
  | 120 => ⟨S1800x18x8x3x16, .f32⟩
  | 121 => ⟨S1800x8x18x16x3, .f32⟩
  | 122 => ⟨S1800x8x288x3, .f32⟩
  | 123 => ⟨S1800x8x3x256, .f32⟩
  | 124 => ⟨S1800x3x8x256, .f32⟩
  | 125 => ⟨S_, .f32⟩
  | 126 => ⟨S1800x8x256, .f32⟩
  | 127 => ⟨S4x450x3, .f32⟩
  | _ => ⟨S1800, .i32⟩

abbrev hbmTy0_1 (i : Nat) : BufTy := match i % 128 with
  | 0 => ⟨S1800x3, .f32⟩
  | 1 => ⟨S1800x8x256, .f32⟩
  | 2 => ⟨S1800x1x8x256, .f32⟩
  | 3 => ⟨S1800x3x1x1, .f32⟩
  | 4 => ⟨S1800x3x8x256, .f32⟩
  | 5 => ⟨S1800x3x8x256, .f32⟩
  | 6 => ⟨S1800x3x8x256, .f32⟩
  | 7 => ⟨S1800x3x8x256, .f32⟩
  | 8 => ⟨S1800x1x8x256, .f32⟩
  | 9 => ⟨S1800x4x8x256, .f32⟩
  | _ => ⟨S1800, .i32⟩

abbrev hbmTy (i : Nat) : BufTy := match i / 128 with
  | 0 => hbmTy0_0 i
  | 1 => hbmTy0_1 i
  | _ => ⟨S1800, .i32⟩

abbrev bufTy : (tb : Table) → Fin (tcTables nBuf tb) → BufTy
  | .hbm, ⟨i, _⟩ => hbmTy i
  | _, _ => ⟨S1800, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_c_1 : Ref sig .tc := ⟨.hbm, 20, rfl⟩
abbrev main_call0_v0 : Ref sig .tc := ⟨.hbm, 21, rfl⟩
abbrev main_call0_c : Ref sig .tc := ⟨.hbm, 22, rfl⟩
abbrev main_call0_v1 : Ref sig .tc := ⟨.hbm, 23, rfl⟩
abbrev main_call0_c_0 : Ref sig .tc := ⟨.hbm, 24, rfl⟩
abbrev main_call0_v2 : Ref sig .tc := ⟨.hbm, 25, rfl⟩
abbrev main_call0_v3 : Ref sig .tc := ⟨.hbm, 26, rfl⟩
abbrev main_call0_v4 : Ref sig .tc := ⟨.hbm, 27, rfl⟩
abbrev main_call0_c_1 : Ref sig .tc := ⟨.hbm, 28, rfl⟩
abbrev main_call0_v5 : Ref sig .tc := ⟨.hbm, 29, rfl⟩
abbrev main_call0_v6 : Ref sig .tc := ⟨.hbm, 30, rfl⟩
abbrev main_call0_c_2 : Ref sig .tc := ⟨.hbm, 31, rfl⟩
abbrev main_call0_v7 : Ref sig .tc := ⟨.hbm, 32, rfl⟩
abbrev main_call0_v8 : Ref sig .tc := ⟨.hbm, 33, rfl⟩
abbrev main_call0_c_3 : Ref sig .tc := ⟨.hbm, 34, rfl⟩
abbrev main_call0_v9 : Ref sig .tc := ⟨.hbm, 35, rfl⟩
abbrev main_call0_v10 : Ref sig .tc := ⟨.hbm, 36, rfl⟩
abbrev main_call0_v11 : Ref sig .tc := ⟨.hbm, 37, rfl⟩
abbrev main_call0_v12 : Ref sig .tc := ⟨.hbm, 38, rfl⟩
abbrev main_call0_v13 : Ref sig .tc := ⟨.hbm, 39, rfl⟩
abbrev main_call0_v14 : Ref sig .tc := ⟨.hbm, 40, rfl⟩
abbrev main_v14 : Ref sig .tc := ⟨.hbm, 41, rfl⟩
abbrev main_v15 : Ref sig .tc := ⟨.hbm, 42, rfl⟩
abbrev main_cst : Ref sig .tc := ⟨.hbm, 43, rfl⟩
abbrev main_v16 : Ref sig .tc := ⟨.hbm, 44, rfl⟩
abbrev main_v17 : Ref sig .tc := ⟨.hbm, 45, rfl⟩
abbrev main_c_2 : Ref sig .tc := ⟨.hbm, 46, rfl⟩
abbrev main_call1_v0 : Ref sig .tc := ⟨.hbm, 47, rfl⟩
abbrev main_call1_v1 : Ref sig .tc := ⟨.hbm, 48, rfl⟩
abbrev main_call1_v2 : Ref sig .tc := ⟨.hbm, 49, rfl⟩
abbrev main_call1_v3 : Ref sig .tc := ⟨.hbm, 50, rfl⟩
abbrev main_call1_v4 : Ref sig .tc := ⟨.hbm, 51, rfl⟩
abbrev main_call1_v5 : Ref sig .tc := ⟨.hbm, 52, rfl⟩
abbrev main_call1_v6 : Ref sig .tc := ⟨.hbm, 53, rfl⟩
abbrev main_call1_v7 : Ref sig .tc := ⟨.hbm, 54, rfl⟩
abbrev main_call1_v8 : Ref sig .tc := ⟨.hbm, 55, rfl⟩
abbrev main_call1_c : Ref sig .tc := ⟨.hbm, 56, rfl⟩
abbrev main_call1_v9 : Ref sig .tc := ⟨.hbm, 57, rfl⟩
abbrev main_call1_v10 : Ref sig .tc := ⟨.hbm, 58, rfl⟩
abbrev main_call1_v11 : Ref sig .tc := ⟨.hbm, 59, rfl⟩
abbrev main_call1_c_0 : Ref sig .tc := ⟨.hbm, 60, rfl⟩
abbrev main_call1_v12 : Ref sig .tc := ⟨.hbm, 61, rfl⟩
abbrev main_call1_v13 : Ref sig .tc := ⟨.hbm, 62, rfl⟩
abbrev main_v18 : Ref sig .tc := ⟨.hbm, 63, rfl⟩
abbrev main_v19 : Ref sig .tc := ⟨.hbm, 64, rfl⟩
abbrev main_cst_3 : Ref sig .tc := ⟨.hbm, 65, rfl⟩
abbrev main_v20 : Ref sig .tc := ⟨.hbm, 66, rfl⟩
abbrev main_v21 : Ref sig .tc := ⟨.hbm, 67, rfl⟩
abbrev main_cst_4 : Ref sig .tc := ⟨.hbm, 68, rfl⟩
abbrev main_v22 : Ref sig .tc := ⟨.hbm, 69, rfl⟩
abbrev main_v23 : Ref sig .tc := ⟨.hbm, 70, rfl⟩
abbrev main_v24 : Ref sig .tc := ⟨.hbm, 71, rfl⟩
abbrev main_v25 : Ref sig .tc := ⟨.hbm, 72, rfl⟩
abbrev main_v26 : Ref sig .tc := ⟨.hbm, 73, rfl⟩
abbrev main_v27 : Ref sig .tc := ⟨.hbm, 74, rfl⟩
abbrev main_v28 : Ref sig .tc := ⟨.hbm, 75, rfl⟩
abbrev main_v29 : Ref sig .tc := ⟨.hbm, 76, rfl⟩
abbrev main_v30 : Ref sig .tc := ⟨.hbm, 77, rfl⟩
abbrev main_v31 : Ref sig .tc := ⟨.hbm, 78, rfl⟩
abbrev main_v32 : Ref sig .tc := ⟨.hbm, 79, rfl⟩
abbrev main_v33 : Ref sig .tc := ⟨.hbm, 80, rfl⟩
abbrev main_v34 : Ref sig .tc := ⟨.hbm, 81, rfl⟩
abbrev main_v35 : Ref sig .tc := ⟨.hbm, 82, rfl⟩
abbrev main_v36 : Ref sig .tc := ⟨.hbm, 83, rfl⟩
abbrev main_v37 : Ref sig .tc := ⟨.hbm, 84, rfl⟩
abbrev main_v38 : Ref sig .tc := ⟨.hbm, 85, rfl⟩
abbrev main_v39 : Ref sig .tc := ⟨.hbm, 86, rfl⟩
abbrev main_c_5 : Ref sig .tc := ⟨.hbm, 87, rfl⟩
abbrev main_v40 : Ref sig .tc := ⟨.hbm, 88, rfl⟩
abbrev main_v41 : Ref sig .tc := ⟨.hbm, 89, rfl⟩
abbrev main_v42 : Ref sig .tc := ⟨.hbm, 90, rfl⟩
abbrev main_v43 : Ref sig .tc := ⟨.hbm, 91, rfl⟩
abbrev main_v44 : Ref sig .tc := ⟨.hbm, 92, rfl⟩
abbrev main_cst_6 : Ref sig .tc := ⟨.hbm, 93, rfl⟩
abbrev main_v45 : Ref sig .tc := ⟨.hbm, 94, rfl⟩
abbrev main_v46 : Ref sig .tc := ⟨.hbm, 95, rfl⟩
abbrev main_cst_7 : Ref sig .tc := ⟨.hbm, 96, rfl⟩
abbrev main_v47 : Ref sig .tc := ⟨.hbm, 97, rfl⟩
abbrev main_v48 : Ref sig .tc := ⟨.hbm, 98, rfl⟩
abbrev main_v49 : Ref sig .tc := ⟨.hbm, 99, rfl⟩
abbrev main_cst_8 : Ref sig .tc := ⟨.hbm, 100, rfl⟩
abbrev main_call2_v0 : Ref sig .tc := ⟨.hbm, 101, rfl⟩
abbrev main_call2_v1 : Ref sig .tc := ⟨.hbm, 102, rfl⟩
abbrev main_call2_v2 : Ref sig .tc := ⟨.hbm, 103, rfl⟩
abbrev main_v50 : Ref sig .tc := ⟨.hbm, 104, rfl⟩
abbrev main_v51 : Ref sig .tc := ⟨.hbm, 105, rfl⟩
abbrev main_v52 : Ref sig .tc := ⟨.hbm, 106, rfl⟩
abbrev main_v53 : Ref sig .tc := ⟨.hbm, 107, rfl⟩
abbrev main_v54 : Ref sig .tc := ⟨.hbm, 108, rfl⟩
abbrev main_v55 : Ref sig .tc := ⟨.hbm, 109, rfl⟩
abbrev main_v56 : Ref sig .tc := ⟨.hbm, 110, rfl⟩
abbrev main_v57 : Ref sig .tc := ⟨.hbm, 111, rfl⟩
abbrev main_v58 : Ref sig .tc := ⟨.hbm, 112, rfl⟩
abbrev main_v59 : Ref sig .tc := ⟨.hbm, 113, rfl⟩
abbrev main_v60 : Ref sig .tc := ⟨.hbm, 114, rfl⟩
abbrev main_v61 : Ref sig .tc := ⟨.hbm, 115, rfl⟩
abbrev main_v62 : Ref sig .tc := ⟨.hbm, 116, rfl⟩
abbrev main_v63 : Ref sig .tc := ⟨.hbm, 117, rfl⟩
abbrev main_v64 : Ref sig .tc := ⟨.hbm, 118, rfl⟩
abbrev main_v65 : Ref sig .tc := ⟨.hbm, 119, rfl⟩
abbrev main_v66 : Ref sig .tc := ⟨.hbm, 120, rfl⟩
abbrev main_v67 : Ref sig .tc := ⟨.hbm, 121, rfl⟩
abbrev main_v68 : Ref sig .tc := ⟨.hbm, 122, rfl⟩
abbrev main_v69 : Ref sig .tc := ⟨.hbm, 123, rfl⟩
abbrev main_v70 : Ref sig .tc := ⟨.hbm, 124, rfl⟩
abbrev main_cst_9 : Ref sig .tc := ⟨.hbm, 125, rfl⟩
abbrev main_v71 : Ref sig .tc := ⟨.hbm, 126, rfl⟩
abbrev main_v72 : Ref sig .tc := ⟨.hbm, 127, rfl⟩
abbrev main_v73 : Ref sig .tc := ⟨.hbm, 128, rfl⟩
abbrev main_v74 : Ref sig .tc := ⟨.hbm, 129, rfl⟩
abbrev main_v75 : Ref sig .tc := ⟨.hbm, 130, rfl⟩
abbrev main_v76 : Ref sig .tc := ⟨.hbm, 131, rfl⟩
abbrev main_v77 : Ref sig .tc := ⟨.hbm, 132, rfl⟩
abbrev main_v78 : Ref sig .tc := ⟨.hbm, 133, rfl⟩
abbrev main_v79 : Ref sig .tc := ⟨.hbm, 134, rfl⟩
abbrev main_v80 : Ref sig .tc := ⟨.hbm, 135, rfl⟩
abbrev main_v81 : Ref sig .tc := ⟨.hbm, 136, rfl⟩
abbrev main_v82 : Ref sig .tc := ⟨.hbm, 137, rfl⟩

abbrev nD : Nat := 1
abbrev τ : Topo := Topo.v7x

variable {F : FTy → Type} [FloatOps F]
-- ==== Proof.KIChunk.lean ====
/- What the kernel computes, as vectors: one slot, one chunk of sixteen slots, the chunks of one group of tiles. Every
   definition is the kernel's own chain of vector operations on the contents of the buffers it reads, in the program's
   order; nothing here is about the machine (KITrip.lean) or about real numbers. -/
module

public import proofs.«01_k».proof.Proof.Gen.KernelIdeal.Skeleton
public import Idealize.ShloMosaic.Lib.Pipeline.FrameBody
public import Idealize.ShloMosaic.Lib.WholeRead
public import Idealize.ShloMosaic.Lib.Pointwise

@[expose] public section

noncomputable section

namespace Cert.KernelIdeal.Raster

open Cert.KernelIdeal Cert.KernelIdeal.Gen Idealize.ShloMosaic Idealize.ShloMosaic.TcCoe

variable {F : FTy → Type} [FloatOps F]

/-- Eight tiles by 256 pixels. -/
abbrev Tile (F : FTy → Type) : Type := FVec F S8x256 .f32

/-- What is carried from chunk to chunk: the transmittance, the three colour sums, the summed weight, the log. -/
abbrev Acc (F : FTy → Type) : Type := Tile F × Tile F × Tile F × Tile F × Tile F × Tile F

/-! ## One slot -/

/-- The clamped opacity `min(2^x, 0.99)`. -/
def alphaV (x : Tile F) : Tile F :=
  minimumf (exp2 x) (broadcast S8x256 (Scalar.ofBits .f32 0x3F7D70A4#32))

theorem slices_col (n : ℕ) : S8x128.Slices ![0, n % 128] S8x1 := by
  have h : n % 128 < 128 := Nat.mod_lt _ (by decide)
  generalize n % 128 = x at h
  revert h; revert x
  decide

/-- Lane `n` of the colours, one per tile, across the pixels. -/
def laneV (cols : FVec F S8x128 .f32) (n : ℕ) : Tile F :=
  broadcastTo S8x256 (shapeCast S8x1 (extractStridedSlice S8x1 ![0, n % 128] cols (slices_col n)) shapeCasts_S8x1_S8x1)
    broadcasts_S8x1_S8x256

theorem row_inb (n : ℕ) : ∀ a, (![n % 4 * 32 + n / 4 % 4 * 8, 0] : Fin 2 → ℕ) a + S8x256.size a ≤ S128x256.size a := by
  intro a
  fin_cases a
  · show n % 4 * 32 + n / 4 % 4 * 8 + 8 ≤ 128; omega
  · show 0 + 256 ≤ 256; omega

/-- The eight rows of exponents of slot `n`. -/
def rowV (E : FVec F S128x256 .f32) (n : ℕ) : Tile F :=
  View.ld (Val := Elt F) (e' := .f32) E (Rect.unit (s := S128x256) ![n % 4 * 32 + n / 4 % 4 * 8, 0] S8x256.size (row_inb n))

/-! ## One chunk -/

/-- The transmittance within a chunk after its first `n` slots. -/
def tV (E : FVec F S128x256 .f32) : ℕ → Tile F
  | 0 => broadcast S8x256 (Scalar.ofBits .f32 0x3F800000#32)
  | n + 1 => subf (tV E n) (mulf (alphaV (rowV E n)) (tV E n))

/-- Slot `n`'s weight within its chunk. -/
def aV (E : FVec F S128x256 .f32) (n : ℕ) : Tile F := mulf (alphaV (rowV E n)) (tV E n)

/-- A colour channel summed over the first `n` slots, the channel's lanes from `o`. -/
def sumV (E : FVec F S128x256 .f32) (cols : FVec F S8x128 .f32) (o : ℕ) : ℕ → Tile F
  | 0 => broadcast S8x256 (Scalar.ofBits .f32 0x00000000#32)
  | n + 1 => addf (sumV E cols o n) (mulf (aV E n) (laneV cols (o + n)))

/-- The weights summed over the first `n` slots. -/
def swV (E : FVec F S128x256 .f32) : ℕ → Tile F
  | 0 => broadcast S8x256 (Scalar.ofBits .f32 0x00000000#32)
  | n + 1 => addf (swV E n) (aV E n)

/-- One chunk on top of what is carried. -/
def chunkV (E : FVec F S128x256 .f32) (cols : FVec F S8x128 .f32) (acc : Acc F) : Acc F :=
  (mulf acc.1 (tV E 16),
   addf acc.2.1 (mulf acc.1 (sumV E cols 0 16)),
   addf acc.2.2.1 (mulf acc.1 (sumV E cols 16 16)),
   addf acc.2.2.2.1 (mulf acc.1 (sumV E cols 32 16)),
   addf acc.2.2.2.2.1 (mulf acc.1 (swV E 16)),
   addf acc.2.2.2.2.2 (divf (log (tV E 16)) (broadcast S8x256 (Scalar.ofBits .f32 0x3F317218#32))))

/-! ## The chunks of a group -/

theorem words_inb (g k : ℕ) : ∀ a, (![g % 25, 16 * (k % 18), 0] : Fin 3 → ℕ) a + S1x16x128.size a ≤ S25x288x128.size a := by
  intro a
  fin_cases a
  · show g % 25 + 1 ≤ 25; omega
  · show 16 * (k % 18) + 16 ≤ 288; omega
  · show 0 + 128 ≤ 128; omega

theorem cols_inb (g k : ℕ) : ∀ a, (![g % 25, 8 * (k % 18), 0] : Fin 3 → ℕ) a + S1x8x128.size a ≤ S25x144x128.size a := by
  intro a
  fin_cases a
  · show g % 25 + 1 ≤ 25; omega
  · show 8 * (k % 18) + 8 ≤ 144; omega
  · show 0 + 128 ≤ 128; omega

theorem mono_inb : ∀ a, (![0, 0] : Fin 2 → ℕ) a + S128x256.size a ≤ S128x256.size a := inb_S128x256_S128x256_0_0

/-- The exponents of chunk `k` of group `g`. -/
def expV (W : Vec F S25x288x128 .i32) (M : Vec F S128x256 .bf16) (g k : ℕ) : FVec F S128x256 .f32 :=
  k0_pay75 (k0_pay4 (View.ld (Val := Elt F) (e' := .i32) W (Rect.unit (s := S25x288x128) ![g % 25, 16 * (k % 18), 0] S1x16x128.size (words_inb g k)))
    (View.ld (Val := Elt F) (e' := .bf16) M (Rect.unit (s := S128x256) ![0, 0] S128x256.size mono_inb)))

/-- The colours of chunk `k` of group `g`. -/
def colV (C : Vec F S25x144x128 .f32) (g k : ℕ) : FVec F S8x128 .f32 :=
  k0_pay5 (View.ld (Val := Elt F) (e' := .f32) C (Rect.unit (s := S25x144x128) ![g % 25, 8 * (k % 18), 0] S1x8x128.size (cols_inb g k)))

/-- What is carried after the first `k` chunks of group `g`. -/
def accV (W : Vec F S25x288x128 .i32) (C : Vec F S25x144x128 .f32) (M : Vec F S128x256 .bf16) (g : ℕ) : ℕ → Acc F
  | 0 => (k0_pay161, k0_pay160, k0_pay160, k0_pay160, k0_pay160, k0_pay160)
  | k + 1 => chunkV (expV W M g k) (colV C g k) (accV W C M g k)

/-- What the exponents' buffer holds before chunk `k` of a group `g` of `n` chunks: the chunk's exponents; after the
last chunk those of the next group's first chunk, already computed. -/
def bufV (W : Vec F S25x288x128 .i32) (M : Vec F S128x256 .bf16) (g n k : ℕ) : FVec F S128x256 .f32 :=
  if k = n then expV W M (min (g + 1) 24) 0 else expV W M g k

/-- The number of chunks of group `g` at grid step `i`. -/
def countV (N : S1800.Idx → BitVec 32) (i g : ℕ) : BitVec 32 := N (ix1 ⟨(i * 25 + g) % 1800, Nat.mod_lt _ (by decide)⟩)

/-- The background of grid step `i`: its image's, one image to eighteen steps. -/
def backV (B : Vec F S4x3 .f32) (i : ℕ) (ch : Fin 3) : F .f32 := B (ix2 ⟨i / 18 % 4, Nat.mod_lt _ (by decide)⟩ ch)

/-- The four rows the kernel stores for group `g` of `n` chunks, the background's three channels `b`. -/
def outV (W : Vec F S25x288x128 .i32) (C : Vec F S25x144x128 .f32) (M : Vec F S128x256 .bf16) (b : Fin 3 → F .f32) (g n : ℕ)
    (ch : Fin 4) : FVec F S1x1x8x256 .f32 :=
  let s := accV W C M g n
  match ch with
  | 0 => k0_pay164 s.1 s.2.1 (b 0)
  | 1 => k0_pay165 s.1 s.2.2.1 (b 1)
  | 2 => k0_pay2 (k0_pay166 s.1 s.2.2.2.1 (b 2))
  | 3 => k0_pay3 s.2.2.2.2.1 s.2.2.2.2.2

end Cert.KernelIdeal.Raster
-- ==== Proof.KIWords.lean ====
/- The kernel's loop counts and the offsets of its loads and stores, as plain numbers: each is decided over every count
   from one to eighteen, every group of a step and every chunk, or over every grid step. -/
module
public import proofs.«01_k».proof.Proof.Gen.KernelIdeal.Skeleton
@[expose] public section
set_option maxHeartbeats 4000000
namespace Cert.KernelIdeal.Raster
open Cert.KernelIdeal Idealize.ShloMosaic
set_option maxRecDepth 100000

theorem trips1 : k0_t1_loop.trips = 25 := by decide +kernel

theorem trips2 : ∀ n : Fin 18, (k0_t2_loop (BitVec.ofNat 32 (n.val + 1))).trips = n.val + 1 := by decide +kernel

theorem chk1 : ∀ (n : Fin 18) (g : Fin k0_t1_loop.trips), k0_chk1 g (BitVec.ofNat 32 (n.val + 1)) := by
  decide +kernel

theorem off2_eq : ∀ (n : Fin 18) (g : Fin k0_t1_loop.trips) (k : Fin (k0_t2_loop (BitVec.ofNat 32 (n.val + 1))).trips),
    k0_off2 g (BitVec.ofNat 32 (n.val + 1)) k
      = if k.val = n.val then ![min (g.val + 1) 24, 0, 0] else ![g.val, 16 * (k.val + 1), 0] := by
  decide +kernel

theorem off3_eq : ∀ (n : Fin 18) (g : Fin k0_t1_loop.trips) (k : Fin (k0_t2_loop (BitVec.ofNat 32 (n.val + 1))).trips),
    k0_off3 g (BitVec.ofNat 32 (n.val + 1)) k = ![g.val, 8 * k.val, 0] := by
  decide +kernel

theorem off1_eq : ∀ (i : grid0.Coords) (g : Fin k0_t1_loop.trips), k0_off1 i g = ![i 0 * 25 + g.val] := by
  decide +kernel
theorem off6_eq : ∀ (i : grid0.Coords), k0_off6 i = ![(i 0).val / 18, 0] := by
  decide +kernel
theorem off8_eq : ∀ (i : grid0.Coords), k0_off8 i = ![(i 0).val / 18, 1] := by
  decide +kernel
theorem off10_eq : ∀ (i : grid0.Coords), k0_off10 i = ![(i 0).val / 18, 2] := by
  decide +kernel
theorem off7_eq : ∀ (g : Fin k0_t1_loop.trips), k0_off7 g = ![g.val, 0, 0, 0] := by
  decide +kernel
theorem off9_eq : ∀ (g : Fin k0_t1_loop.trips), k0_off9 g = ![g.val, 1, 0, 0] := by
  decide +kernel
theorem off11_eq : ∀ (g : Fin k0_t1_loop.trips), k0_off11 g = ![g.val, 2, 0, 0] := by
  decide +kernel
theorem off12_eq : ∀ (g : Fin k0_t1_loop.trips), k0_off12 g = ![g.val, 3, 0, 0] := by
  decide +kernel
end Cert.KernelIdeal.Raster
end
-- ==== Proof.KILaunch.lean ====
/- The call up to its launch, with the counts as a prefetched table: the arrays' contents when the region is entered,
   the table's contents there, each window's block at a point of the grid, and the body at a point. -/
module

public import proofs.«01_k».proof.Proof.Gen.KernelIdeal.Launch
public import proofs.«01_k».proof.Proof.Gen.KernelIdeal.Skeleton
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.KernelIdeal.Raster

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

abbrev 𝒱₀ : Variants := Variants.none

variable (m : (ℓ : Loc nD τ sig) → Buf (Elt F) ℓ)

/-- Core `c`'s TensorCore buffers when the region is entered: after the host operations `hostOps0`, `hostOps0_1`, `hostOps0_2`, `hostOps0_3`, `hostOps0_4`. -/
abbrev V (c : Dev nD) (b : Ref sig .tc) : Buf (Elt F) ((c : Thread nD τ).loc b) :=
  StableHlo.after (List.flatten [hostOps0, hostOps0_1, hostOps0_2, hostOps0_3, hostOps0_4]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor

set_option maxHeartbeats 800000 in
/-- @main up to the region: the lines of host operations, then the region. -/
theorem hmain : Pipeline.HMainP (Ix := Unit) (Name := ℕ) (U := UR sig nD τ) (Lvl := ℕ) pcfgs 0 defs₀ 𝒱₀ m (main (F := F)) (V m) :=
  Pipeline.hmainP_prefixes pcfgs 0 defs₀ 𝒱₀ m main [hostOps0, hostOps0_1, hostOps0_2, hostOps0_3, hostOps0_4] (by simp only [List.Forall]; exact ⟨hostOps0_sub, hostOps0_1_sub, hostOps0_2_sub, hostOps0_3_sub, hostOps0_4_sub⟩)
    (by simp only [List.Forall]; exact ⟨hostOps0_fresh, hostOps0_1_fresh, hostOps0_2_fresh, hostOps0_3_fresh, hostOps0_4_fresh⟩) main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

/-! ## The table of counts and the windows -/

/-- No block's place depends on the table, so any contents do. -/
theorem ok_any (pf : pre0.Contents (Elt F)) : ok0 pf := by unfold ok0; trivial

/-- The prefetched table at its contents when the region is entered. -/
abbrev tab : (pcfg0 (F := F)).Adm := ⟨fun k => V m 0 (pre0.ref k), ok_any (F := F) (fun k => V m 0 (pre0.ref k))⟩

/-- The same, for each of the program's calls (there is one). -/
abbrev adm : (p : Fin 1) → (pcfgs (F := F) p).Adm := fun _ => tab m

/-- The pipeline at that table. -/
abbrev cfgA : Cfg sig Λ₀ := cfg0 (adm m 0)

/-- Every core finds the table at those contents. -/
theorem table_at (c : Dev nD) (k : Fin pre0.K) : V m c (pre0.ref k) = (adm m 0).1 k := by
  obtain rfl : c = 0 := Subsingleton.elim _ _
  rfl

/-- Window `w`'s block at point `t`, read off its array as the region finds it (`V`). -/
def iblk (c : Dev nD) (w : Fin (cfgA m).W) (t : Fin (cfgA m).N) : (((cfgA m).win w).xblock ((cfgA m).grid.coords t)).Idx → Elt F ((cfgA m).win w).elt :=
  (((cfgA m).win w).blk t).view.read (Elt F) (V m c (Pipeline.arrRef spec0 w))

/-! Each input window's staging buffer holds its block at every point, fetched there or not. -/

theorem before0_0_of {c : Dev nD} (dat : Dat τ (Elt F) Unit ℕ (UR sig nD τ) ℕ (cfgA m) c) (hA : dat.A 0 = V m c (Pipeline.arrRef spec0 0))
    (hafter : ∀ t, dat.after 0 t = iblk m c 0 t) (t : Fin (cfgA m).N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ (cfgA m) c) (hA : dat.A 1 = V m c (Pipeline.arrRef spec0 1))
    (hafter : ∀ t, dat.after 1 t = iblk m c 1 t) (t : Fin (cfgA m).N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ (cfgA m) c) (hA : dat.A 2 = V m c (Pipeline.arrRef spec0 2))
    (hafter : ∀ t, dat.after 2 t = iblk m c 2 t) (t : Fin (cfgA m).N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ (cfgA m) c) (hA : dat.A 3 = V m c (Pipeline.arrRef spec0 3))
    (hafter : ∀ t, dat.after 3 t = iblk m c 3 t) (t : Fin (cfgA m).N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- The current staging memref of each window at point `t`: which of its buffers it is on. -/
abbrev st0_0 (t : Fin (cfgA m).N) := ((cfgA m).win 0).stage ((cfgA m).slots t 0)
abbrev st0_1 (t : Fin (cfgA m).N) := ((cfgA m).win 1).stage ((cfgA m).slots t 1)
abbrev st0_2 (t : Fin (cfgA m).N) := ((cfgA m).win 2).stage ((cfgA m).slots t 2)
abbrev st0_3 (t : Fin (cfgA m).N) := ((cfgA m).win 3).stage ((cfgA m).slots t 3)
abbrev st0_4 (t : Fin (cfgA m).N) := ((cfgA m).win 4).stage ((cfgA m).slots t 4)

/-- The kernel body at point `t`, on what the pipeline calls it with. -/
abbrev bodyAt0 (t : Fin (cfgA m).N) : Prog (TpuEff nD τ sig (Elt F) Λ₀ .tc) PUnit :=
  cc0_raster (grid0.coords t) (Memref.whole main_arg0) (Memref.isWhole_whole _) (spec0_0.stage ((cfgA m).slots t 0)) (hstage0_0 (((cfgA m).slots t 0).cast nbuf0_0)) (spec0_1.stage ((cfgA m).slots t 1)) (hstage0_1 (((cfgA m).slots t 1).cast nbuf0_1)) (spec0_2.stage ((cfgA m).slots t 2)) (hstage0_2 (((cfgA m).slots t 2).cast nbuf0_2)) (spec0_3.stage ((cfgA m).slots t 3)) (hstage0_3 (((cfgA m).slots t 3).cast nbuf0_3)) (spec0_4.stage ((cfgA m).slots t 4)) (hstage0_4 (((cfgA m).slots t 4).cast nbuf0_4)) (Memref.whole cc0_scratch0) (Memref.isWhole_whole _)

/-- The body table's row at point `t`'s slots is the body as `bodyAt0` spells it. -/
theorem defs₀_row (t : Fin (cfgA m).N) : defs₀ (F := F) .tc (cfgA m).body ((cfgA m).bodyArgs t ((cfgA m).slots t)) = bodyAt0 m t := by
  unfold defs₀; rw [Defs.onTc_tc]

/-- The table as the region hands it to the body is the body's memref at half the full share. -/
theorem tables_eq (c : Dev nD) : (Pipeline.ΦT (U := UR sig nD τ) pre0 (adm m 0).1 c : sProp (MT nD τ sig Unit (Elt F) ℕ (UR sig nD τ) ℕ))
    = iprop((c : Thread nD τ).loc main_arg0 ↦[(Memref.whole main_arg0).view.set]{fullShare.right} V m 0 main_arg0) := by
  have h : ((Memref.whole main_arg0).view.set : Finset (Idx ((c : Thread nD τ).loc main_arg0))) = Finset.univ := View.set_whole _
  rw [h]
  unfold Pipeline.ΦT Pipeline.prefHeld
  exact bigSep_univ_eq_bigSepL [(0 : Fin 1)] (by decide) (by decide) _

end Cert.KernelIdeal.Raster

end
-- ==== Proof.KITrip.lean ====
/- One chunk of the kernel's inner loop run by the machine, and the loop's invariant: before chunk `k` the carried values
   are `accV … k` and the exponents' buffer holds the chunk's exponents. -/
module

public import proofs.«01_k».proof.Proof.KIChunk
public import proofs.«01_k».proof.Proof.KIWords
public import proofs.«01_k».proof.Proof.KILaunch
public import Idealize.ShloMosaic.Lib.LoopRemainder
public import Idealize.ShloMosaic.Lib.VecWindow

@[expose] public section

set_option maxRecDepth 8192
set_option maxHeartbeats 4000000

noncomputable section

namespace Cert.KernelIdeal.Raster

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (UR sig nD τ) ℕ

/-- What a chunk needs of the machine: the three buffers it reads and the exponents' buffer. -/
abbrev Held (c : Dev nD) (arg3 : Memref sig .tc .vmem S25x288x128 .i32) (arg4 : Memref sig .tc .vmem S25x144x128 .f32) (arg5 : Memref sig .tc .vmem S128x256 .bf16) (arg7 : Memref sig .tc .vmem S128x256 .f32) (X3 : BufTy.Contents (Elt F) arg3.view.ty) (X4 : BufTy.Contents (Elt F) arg4.view.ty) (X5 : BufTy.Contents (Elt F) arg5.view.ty) (f7 : BufTy.Contents (Elt F) arg7.view.ty) : sProp 𝕄G :=
  iprop((arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg7.view.loc (c : Thread nD τ) ↦[arg7.view.set]{fullShare} f7))

theorem trip (c : Dev nD) (i : grid0.Coords) (arg1 : Memref sig .tc .smem S1800 .i32) (harg1 : arg1.IsWhole) (arg2 : Memref sig .tc .smem S4x3 .f32) (harg2 : arg2.IsWhole) (arg3 : Memref sig .tc .vmem S25x288x128 .i32) (harg3 : arg3.IsWhole) (arg4 : Memref sig .tc .vmem S25x144x128 .f32) (harg4 : arg4.IsWhole) (arg5 : Memref sig .tc .vmem S128x256 .bf16) (harg5 : arg5.IsWhole) (arg6 : Memref sig .tc .vmem S25x4x8x256 .f32) (harg6 : arg6.IsWhole) (arg7 : Memref sig .tc .vmem S128x256 .f32) (harg7 : arg7.IsWhole) (arg0 v16 c0_i32_10 c1_i32_11 : BitVec 32) (k0_t1 : Fin k0_t1_loop.trips) (arg8 : BitVec 32) (v37 : Elt F .i32) (k0_hw1 : k0_chk1 k0_t1 v37) (k : Fin (k0_t2_loop v37).trips)
    (acc : Acc F) (X3 : BufTy.Contents (Elt F) arg3.view.ty) (X4 : BufTy.Contents (Elt F) arg4.view.ty) (X5 : BufTy.Contents (Elt F) arg5.view.ty) (X7 : BufTy.Contents (Elt F) arg7.view.ty) :
    Held (F := F) c arg3 arg4 arg5 arg7 X3 X4 X5 X7
    ⊢ wp frame (wpE (defs₀ (F := F)) 𝒱₀ (c : Thread nD τ) none) Set.univ (k0_t2_body (F := F) i arg1 harg1 arg2 harg2 arg3 harg3 arg4 harg4 arg5 harg5 arg6 harg6 arg7 harg7 arg0 v16 c0_i32_10 c1_i32_11 k0_t1 arg8 v37 k0_hw1 k acc)
      (fun yld => iprop(⌜yld = chunkV (arg7.view.read (Elt F) X7) (k0_pay5 (View.ld (Val := Elt F) (arg4.view.read (Elt F) X4) (Rect.unit (s := S25x144x128) (k0_off3 k0_t1 v37 k) S1x8x128.size (k0_off3_inb k0_t1 v37 k0_hw1 k)))) acc⌝
        ∗ Held (F := F) c arg3 arg4 arg5 arg7 X3 X4 X5
          (arg7.view.writes (Elt F) X7 [⟨Rect.unit (s := S128x256) ![0, 0] S128x256.size inb_S128x256_S128x256_0_0,
            k0_pay75 (k0_pay4 (View.ld (Val := Elt F) (arg3.view.read (Elt F) X3) (Rect.unit (s := S25x288x128) (k0_off2 k0_t1 v37 k) S1x16x128.size (k0_off2_inb k0_t1 v37 k0_hw1 k)))
              (View.ld (Val := Elt F) (arg5.view.read (Elt F) X5) (Rect.unit (s := S128x256) ![0, 0] S128x256.size mono_inb)))⟩]))) := by
  unfold k0_t2_body
  iintro ⟨HR_arg3, HR_arg4, HR_arg5, HW_arg7⟩
  sl_exec
  sl_step
  isplitr
  · ipureintro
    rfl
  · isplitl [HR_arg3]; · iexact HR_arg3
    isplitl [HR_arg4]; · iexact HR_arg4
    isplitl [HR_arg5]; · iexact HR_arg5
    iexact HW_arg7

end Cert.KernelIdeal.Raster
-- ==== Proof.KIGroup.lean ====
/- The kernel's two loops by their invariants. Inner: before chunk `k` the carried values are `accV … k` and the
   exponents' buffer holds chunk `k`'s exponents. Outer: before group `g` the exponents' buffer holds the group's first
   chunk, and the output block holds the rows of every earlier group. -/
module

public import proofs.«01_k».proof.Proof.KITrip

@[expose] public section

set_option maxRecDepth 8192
set_option maxHeartbeats 4000000

noncomputable section

namespace Cert.KernelIdeal.Raster

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (UR sig nD τ) ℕ

/-- A word that counts a group's chunks: one to eighteen. -/
def Count (v : BitVec 32) : Prop := ∃ n : Fin 18, v = BitVec.ofNat 32 (n.val + 1)

theorem Count.chk {v : BitVec 32} (h : Count v) (g : Fin k0_t1_loop.trips) : k0_chk1 g v := by
  obtain ⟨n, rfl⟩ := h; exact chk1 n g

theorem Count.toNat {n : Fin 18} : (BitVec.ofNat 32 (n.val + 1)).toNat = n.val + 1 := by
  rw [BitVec.toNat_ofNat]; omega

theorem Count.trips {v : BitVec 32} (h : Count v) : (k0_t2_loop v).trips = v.toNat := by
  obtain ⟨n, rfl⟩ := h; rw [trips2, Count.toNat]

theorem ld_congr {S : Shape} {e : EltTy} (X : S.Idx → Elt F e) {off off' size : Fin S.rank → ℕ} (eo : off = off')
    (h : ∀ a, off a + size a ≤ S.size a) (h' : ∀ a, off' a + size a ≤ S.size a) :
    View.ld (Val := Elt F) X (Rect.unit (s := S) off size h) = View.ld (Val := Elt F) X (Rect.unit (s := S) off' size h') := by
  subst eo; rfl

theorem col_eq {v : BitVec 32} (hv : Count v) (g : Fin k0_t1_loop.trips) (hw : k0_chk1 g v) (k : Fin (k0_t2_loop v).trips)
    (C : Vec F S25x144x128 .f32) :
    k0_pay5 (View.ld (Val := Elt F) (e' := .f32) C (Rect.unit (s := S25x144x128) (k0_off3 g v k) S1x8x128.size (k0_off3_inb g v hw k)))
      = colV C g.val k.val := by
  have hk := k.isLt
  have hg : g.val < 25 := lt_of_lt_of_eq g.isLt trips1
  obtain ⟨n, rfl⟩ := hv
  have hk' : k.val < n.val + 1 := lt_of_lt_of_eq hk (trips2 n)
  have hn := n.isLt
  unfold colV
  refine congrArg k0_pay5 (ld_congr (F := F) C ?_ _ _)
  rw [off3_eq, Nat.mod_eq_of_lt hg, Nat.mod_eq_of_lt (by omega : k.val < 18)]

theorem exp_eq {v : BitVec 32} (hv : Count v) (g : Fin k0_t1_loop.trips) (hw : k0_chk1 g v) (k : Fin (k0_t2_loop v).trips)
    (W : Vec F S25x288x128 .i32) (M : Vec F S128x256 .bf16) :
    k0_pay75 (k0_pay4 (View.ld (Val := Elt F) (e' := .i32) W (Rect.unit (s := S25x288x128) (k0_off2 g v k) S1x16x128.size (k0_off2_inb g v hw k)))
      (View.ld (Val := Elt F) (e' := .bf16) M (Rect.unit (s := S128x256) ![0, 0] S128x256.size mono_inb)))
      = bufV W M g.val v.toNat (k.val + 1) := by
  have hk := k.isLt
  have hg : g.val < 25 := lt_of_lt_of_eq g.isLt trips1
  obtain ⟨n, rfl⟩ := hv
  have hk' : k.val < n.val + 1 := lt_of_lt_of_eq hk (trips2 n)
  have hn := n.isLt
  unfold bufV expV
  rw [Count.toNat]
  by_cases h : k.val = n.val
  · rw [if_pos (by omega)]
    refine congrArg (fun x => k0_pay75 (k0_pay4 x _)) (ld_congr (F := F) W ?_ _ _)
    rw [off2_eq, if_pos h, Nat.mod_eq_of_lt (by omega : min (g.val + 1) 24 < 25)]
  · rw [if_neg (by omega)]
    refine congrArg (fun x => k0_pay75 (k0_pay4 x _)) (ld_congr (F := F) W ?_ _ _)
    rw [off2_eq, if_neg h, Nat.mod_eq_of_lt hg, Nat.mod_eq_of_lt (by omega : k.val + 1 < 18)]

/-! ## The inner loop -/

/-- Before chunk `k` of group `g`, counted by the word `v`. -/
def innerI (c : Dev nD) (arg3 : Memref sig .tc .vmem S25x288x128 .i32) (arg4 : Memref sig .tc .vmem S25x144x128 .f32) (arg5 : Memref sig .tc .vmem S128x256 .bf16) (arg7 : Memref sig .tc .vmem S128x256 .f32)
    (X3 : BufTy.Contents (Elt F) arg3.view.ty) (X4 : BufTy.Contents (Elt F) arg4.view.ty) (X5 : BufTy.Contents (Elt F) arg5.view.ty)
    (g : ℕ) (v : BitVec 32) (k : ℕ) (acc : Acc F) : sProp 𝕄G :=
  iprop(∃ f7, Held (F := F) c arg3 arg4 arg5 arg7 X3 X4 X5 f7
    ∗ ⌜arg7.view.read (Elt F) f7 = bufV (arg3.view.read (Elt F) X3) (arg5.view.read (Elt F) X5) g v.toNat k⌝
    ∗ ⌜acc = accV (arg3.view.read (Elt F) X3) (arg4.view.read (Elt F) X4) (arg5.view.read (Elt F) X5) g k⌝)

theorem inner_step (c : Dev nD) (i : grid0.Coords) (arg1 : Memref sig .tc .smem S1800 .i32) (harg1 : arg1.IsWhole) (arg2 : Memref sig .tc .smem S4x3 .f32) (harg2 : arg2.IsWhole) (arg3 : Memref sig .tc .vmem S25x288x128 .i32) (harg3 : arg3.IsWhole) (arg4 : Memref sig .tc .vmem S25x144x128 .f32) (harg4 : arg4.IsWhole) (arg5 : Memref sig .tc .vmem S128x256 .bf16) (harg5 : arg5.IsWhole) (arg6 : Memref sig .tc .vmem S25x4x8x256 .f32) (harg6 : arg6.IsWhole) (arg7 : Memref sig .tc .vmem S128x256 .f32) (harg7 : arg7.IsWhole) (arg0 v16 c0_i32_10 c1_i32_11 : BitVec 32) (k0_t1 : Fin k0_t1_loop.trips) (arg8 : BitVec 32) (v37 : Elt F .i32) (hv : Count v37) (k0_hw1 : k0_chk1 k0_t1 v37)
    (X3 : BufTy.Contents (Elt F) arg3.view.ty) (X4 : BufTy.Contents (Elt F) arg4.view.ty) (X5 : BufTy.Contents (Elt F) arg5.view.ty)
    (k : Fin (k0_t2_loop v37).trips) (acc : Acc F) :
    innerI (F := F) c arg3 arg4 arg5 arg7 X3 X4 X5 k0_t1.val v37 k.val acc
    ⊢ wp frame (wpE (defs₀ (F := F)) 𝒱₀ (c : Thread nD τ) none) Set.univ (k0_t2_body (F := F) i arg1 harg1 arg2 harg2 arg3 harg3 arg4 harg4 arg5 harg5 arg6 harg6 arg7 harg7 arg0 v16 c0_i32_10 c1_i32_11 k0_t1 arg8 v37 k0_hw1 k acc)
      (innerI (F := F) c arg3 arg4 arg5 arg7 X3 X4 X5 k0_t1.val v37 (k.val + 1)) := by
  have hk : k.val < v37.toNat := lt_of_lt_of_eq k.isLt hv.trips
  unfold innerI
  iintro ⟨%f7, HT, %h7, %hacc⟩
  iapply (wp_wand_r frame (wpE (defs₀ (F := F)) 𝒱₀ (c : Thread nD τ) none) Set.univ)
  isplitl [HT]
  · iapply (trip (F := F) c i arg1 harg1 arg2 harg2 arg3 harg3 arg4 harg4 arg5 harg5 arg6 harg6 arg7 harg7 arg0 v16 c0_i32_10 c1_i32_11 k0_t1 arg8 v37 k0_hw1 k acc X3 X4 X5 f7)
    iexact HT
  · iintro %yld ⟨%hy, HT⟩
    iexists _
    isplitl [HT]; · iexact HT
    isplitr
    · ipureintro
      rw [View.read_writes_full]
      exact exp_eq hv k0_t1 k0_hw1 k _ _
    · ipureintro
      rw [hy, h7, hacc, col_eq hv k0_t1 k0_hw1]
      unfold bufV
      rw [if_neg (by omega)]
      rfl

/-! ## One group -/

theorem count_eq (i : grid0.Coords) (g : Fin k0_t1_loop.trips) (N : S1800.Idx → BitVec 32) (h) (y) :
    N ((Rect.unit (s := S1800) (k0_off1 i g) S1.size h).idx y) = countV N (i 0).val g.val := by
  have hg : g.val < 25 := lt_of_lt_of_eq g.isLt trips1
  have hi : (i 0).val < 72 := (i 0).isLt
  have hy : (y 0).val < 1 := (y 0).isLt
  unfold countV
  refine congrArg N (funext fun a => Fin.ext ?_)
  fin_cases a
  show k0_off1 i g 0 + 1 * (y 0).val = ((i 0).val * 25 + g.val) % 1800
  have ho : k0_off1 i g 0 = (i 0).val * 25 + g.val := congrFun (off1_eq i g) 0
  rw [ho, Nat.mod_eq_of_lt (by omega)]
  omega

theorem back_eq (i : grid0.Coords) (B : Vec F S4x3 .f32) {off : Fin 2 → ℕ} (ch : Fin 3) (ho : off = ![(i 0).val / 18, ch.val]) (h) (y) :
    B ((Rect.unit (s := S4x3) off S1x1.size h).idx y) = backV B (i 0).val ch := by
  subst ho
  have hi : (i 0).val < 72 := (i 0).isLt
  have hy0 : (y 0).val < 1 := (y 0).isLt
  have hy1 : (y 1).val < 1 := (y 1).isLt
  unfold backV
  refine congrArg B (funext fun a => Fin.ext ?_)
  fin_cases a
  · show (i 0).val / 18 + 1 * (y 0).val = (i 0).val / 18 % 4
    omega
  · show ch.val + 1 * (y 1).val = ch.val
    omega

/-- The four rows of group `g` as the run stores them, last first. -/
def rowsOf (g : Fin k0_t1_loop.trips) (o : Fin 4 → FVec F S1x1x8x256 .f32) : List (View.Piece (Elt F) S25x4x8x256 .f32) :=
  [⟨Rect.unit (s := S25x4x8x256) (k0_off12 g) S1x1x8x256.size (k0_off12_inb g), o 3⟩,
   ⟨Rect.unit (s := S25x4x8x256) (k0_off11 g) S1x1x8x256.size (k0_off11_inb g), o 2⟩,
   ⟨Rect.unit (s := S25x4x8x256) (k0_off9 g) S1x1x8x256.size (k0_off9_inb g), o 1⟩,
   ⟨Rect.unit (s := S25x4x8x256) (k0_off7 g) S1x1x8x256.size (k0_off7_inb g), o 0⟩]

/-- What group `g` of grid step `i` leaves in the output block, from the contents of the five operands. -/
def groupV (N : S1800.Idx → BitVec 32) (B : Vec F S4x3 .f32) (W : Vec F S25x288x128 .i32) (C : Vec F S25x144x128 .f32) (M : Vec F S128x256 .bf16)
    (i g : ℕ) (ch : Fin 4) : FVec F S1x1x8x256 .f32 :=
  outV W C M (backV B i) g (countV N i g).toNat ch

theorem group_trip (c : Dev nD) (i : grid0.Coords) (arg1 : Memref sig .tc .smem S1800 .i32) (harg1 : arg1.IsWhole) (arg2 : Memref sig .tc .smem S4x3 .f32) (harg2 : arg2.IsWhole) (arg3 : Memref sig .tc .vmem S25x288x128 .i32) (harg3 : arg3.IsWhole) (arg4 : Memref sig .tc .vmem S25x144x128 .f32) (harg4 : arg4.IsWhole) (arg5 : Memref sig .tc .vmem S128x256 .bf16) (harg5 : arg5.IsWhole) (arg6 : Memref sig .tc .vmem S25x4x8x256 .f32) (harg6 : arg6.IsWhole) (arg7 : Memref sig .tc .vmem S128x256 .f32) (harg7 : arg7.IsWhole) (arg0 v16 : BitVec 32) (k0_t1 : Fin k0_t1_loop.trips)
    (X1 : BufTy.Contents (Elt F) arg1.view.ty) (X2 : BufTy.Contents (Elt F) arg2.view.ty)
    (hv : ∀ j, Count (arg1.view.read (Elt F) X1 j))
    (X3 : BufTy.Contents (Elt F) arg3.view.ty) (X4 : BufTy.Contents (Elt F) arg4.view.ty) (X5 : BufTy.Contents (Elt F) arg5.view.ty) (f6 : BufTy.Contents (Elt F) arg6.view.ty) (f7 : BufTy.Contents (Elt F) arg7.view.ty)
    (h7 : arg7.view.read (Elt F) f7 = expV (arg3.view.read (Elt F) X3) (arg5.view.read (Elt F) X5) k0_t1.val 0) :
    iprop((arg1.view.loc (c : Thread nD τ) ↦[arg1.view.set]{fullShare.right} X1) ∗ (arg2.view.loc (c : Thread nD τ) ↦[arg2.view.set]{fullShare} X2)
      ∗ Held (F := F) c arg3 arg4 arg5 arg7 X3 X4 X5 f7 ∗ (arg6.view.loc (c : Thread nD τ) ↦[arg6.view.set]{fullShare} f6))
    ⊢ wp frame (wpE (defs₀ (F := F)) 𝒱₀ (c : Thread nD τ) none) Set.univ (k0_t1_body (F := F) i arg1 harg1 arg2 harg2 arg3 harg3 arg4 harg4 arg5 harg5 arg6 harg6 arg7 harg7 arg0 v16 k0_t1 ())
      (fun _ => iprop((arg1.view.loc (c : Thread nD τ) ↦[arg1.view.set]{fullShare.right} X1) ∗ (arg2.view.loc (c : Thread nD τ) ↦[arg2.view.set]{fullShare} X2)
        ∗ (∃ f7', ⌜arg7.view.read (Elt F) f7' = expV (arg3.view.read (Elt F) X3) (arg5.view.read (Elt F) X5) (min (k0_t1.val + 1) 24) 0⌝ ∗ Held (F := F) c arg3 arg4 arg5 arg7 X3 X4 X5 f7')
        ∗ (arg6.view.loc (c : Thread nD τ) ↦[arg6.view.set]{fullShare} arg6.view.writes (Elt F) f6
            (rowsOf k0_t1 (groupV (arg1.view.read (Elt F) X1) (arg2.view.read (Elt F) X2) (arg3.view.read (Elt F) X3) (arg4.view.read (Elt F) X4) (arg5.view.read (Elt F) X5) (i 0).val k0_t1.val))))) := by
  unfold k0_t1_body
  iintro ⟨H1, H2, ⟨H3, H4, H5, H7⟩, H6⟩
  sl_exec (disch := exact (hv _).chk _)
  have hcount : group_trip.sl.r i arg1 k0_t1 X1 = countV (arg1.view.read (Elt F) X1) (i 0).val k0_t1.val := count_eq i k0_t1 _ _ _
  have hC : Count (group_trip.sl.r i arg1 k0_t1 X1) := hv _
  sl_for (innerI (F := F) c arg3 arg4 arg5 arg7 X3 X4 X5 k0_t1.val (group_trip.sl.r i arg1 k0_t1 X1)) $$ [H3 H4 H5 H7]
  case region =>
    intro k acc
    exact inner_step (F := F) c i arg1 harg1 arg2 harg2 arg3 harg3 arg4 harg4 arg5 harg5 arg6 harg6 arg7 harg7 arg0 v16 _ _ k0_t1 _ _ (hv _) _ X3 X4 X5 k acc
  · unfold innerI
    iexists f7
    isplitl [H3 H4 H5 H7]
    · isplitl [H3]; · iexact H3
      isplitl [H4]; · iexact H4
      isplitl [H5]; · iexact H5
      iexact H7
    isplitr
    · ipureintro
      have h0 : 0 ≠ (group_trip.sl.r i arg1 k0_t1 X1).toNat := by
        obtain ⟨n, hn⟩ := hC
        rw [hn, Count.toNat]; omega
      unfold bufV
      rw [h7, if_neg h0]
    · ipureintro; rfl
  iintro %acc HI
  unfold innerI
  icases HI with ⟨%f7', ⟨H3, H4, H5, H7⟩, %h7', %hacc⟩
  have htr : Scf.trips (k0_t2_loop (group_trip.sl.r i arg1 k0_t1 X1)).lb (k0_t2_loop (group_trip.sl.r i arg1 k0_t1 X1)).ub
        (k0_t2_loop (group_trip.sl.r i arg1 k0_t1 X1)).st = (group_trip.sl.r i arg1 k0_t1 X1).toNat := hC.trips
  rw [htr] at h7' hacc
  obtain ⟨a0, a1, a2, a3, a4, a5⟩ := acc
  sl_exec
  sl_step
  isplitl [H1]; · iexact H1
  isplitl [H2]; · iexact H2
  isplitl [H3 H4 H5 H7]
  · iexists f7'
    isplitr
    · ipureintro
      rw [h7']; unfold bufV; rw [if_pos rfl]
    · isplitl [H3]; · iexact H3
      isplitl [H4]; · iexact H4
      isplitl [H5]; · iexact H5
      iexact H7
  · rw [hcount] at hacc
    have e : ∀ ch, groupV (arg1.view.read (Elt F) X1) (arg2.view.read (Elt F) X2) (arg3.view.read (Elt F) X3) (arg4.view.read (Elt F) X4) (arg5.view.read (Elt F) X5) (i 0).val k0_t1.val ch
        = (match ch with
          | 0 => k0_pay164 a0 a1 (group_trip.sl.r_1 i arg2 X2)
          | 1 => k0_pay165 a0 a2 (group_trip.sl.r_2 i arg2 X2)
          | 2 => k0_pay2 (group_trip.sl.r_4 i arg2 X2 a0 a3)
          | 3 => k0_pay3 a4 a5 : FVec F S1x1x8x256 .f32) := by
      have b0 : group_trip.sl.r_1 i arg2 X2 = backV (arg2.view.read (Elt F) X2) (i 0).val 0 := back_eq i _ 0 (off6_eq i) _ _
      have b1 : group_trip.sl.r_2 i arg2 X2 = backV (arg2.view.read (Elt F) X2) (i 0).val 1 := back_eq i _ 1 (off8_eq i) _ _
      have b2 : group_trip.sl.r_4 i arg2 X2 a0 a3 = k0_pay166 a0 a3 (backV (arg2.view.read (Elt F) X2) (i 0).val 2) :=
        congrArg (k0_pay166 a0 a3) (back_eq i _ 2 (off10_eq i) _ _)
      intro ch
      unfold groupV outV
      rw [← hacc, b0, b1, b2]
      fin_cases ch <;> rfl
    unfold rowsOf
    rw [e 0, e 1, e 2, e 3]
    iexact H6

/-! ## The outer loop -/

/-- The rows of a group in the block: elsewhere the block is as it was. -/
theorem put_row (x : FVec F S25x4x8x256 .f32) (g c : ℕ) (w : FVec F S1x1x8x256 .f32) (g' : Fin 25) (c' : Fin 4) (j : Fin 8) (p : Fin 256) :
    VecWindow.put x ![g, c, 0, 0] S1x1x8x256.size w (ix4 g' c' j p)
      = if g'.val = g ∧ c'.val = c then w (ix4 0 0 j p) else x (ix4 g' c' j p) := by
  unfold VecWindow.put
  by_cases h : g'.val = g ∧ c'.val = c
  · obtain ⟨rfl, rfl⟩ := h
    have hin : ∀ a, (![g'.val, c'.val, 0, 0] : Fin 4 → ℕ) a ≤ (ix4 g' c' j p a).val ∧ (ix4 g' c' j p a).val < (![g'.val, c'.val, 0, 0] : Fin 4 → ℕ) a + S1x1x8x256.size a := by
      intro a
      fin_cases a
      · show g'.val ≤ g'.val ∧ g'.val < g'.val + 1; omega
      · show c'.val ≤ c'.val ∧ c'.val < c'.val + 1; omega
      · show 0 ≤ j.val ∧ j.val < 0 + 8; omega
      · show 0 ≤ p.val ∧ p.val < 0 + 256; omega
    rw [dif_pos hin, if_pos ⟨rfl, rfl⟩]
    refine congrArg w (funext fun a => Fin.ext ?_)
    fin_cases a
    · show g'.val - g'.val = 0; omega
    · show c'.val - c'.val = 0; omega
    · rfl
    · rfl
  · rw [if_neg h, dif_neg]
    intro hin
    have h0 : g ≤ g'.val ∧ g'.val < g + 1 := hin 0
    have h1 : c ≤ c'.val ∧ c'.val < c + 1 := hin 1
    omega

theorem read_rows (m : Memref sig .tc .vmem S25x4x8x256 .f32) (f : m.view.ty.Contents (Elt F)) (g : Fin k0_t1_loop.trips) (o : Fin 4 → FVec F S1x1x8x256 .f32)
    (g' : Fin 25) (c' : Fin 4) (j : Fin 8) (p : Fin 256) :
    m.view.read (Elt F) (m.view.writes (Elt F) f (rowsOf g o)) (ix4 g' c' j p)
      = if g'.val = g.val then o c' (ix4 0 0 j p) else m.view.read (Elt F) f (ix4 g' c' j p) := by
  unfold rowsOf
  rw [View.read_writes_cons_put _ _ _ _ _ (off12_eq g), put_row, View.read_writes_cons_put _ _ _ _ _ (off11_eq g), put_row,
    View.read_writes_cons_put _ _ _ _ _ (off9_eq g), put_row, View.read_writes_cons_put _ _ _ _ _ (off7_eq g), put_row, View.writes_nil]
  by_cases h : g'.val = g.val
  · rw [if_pos h]
    fin_cases c' <;> simp [h]
  · simp [h]

/-- Before group `g` of grid step `i`. -/
def outerI (c : Dev nD) (arg1 : Memref sig .tc .smem S1800 .i32) (arg2 : Memref sig .tc .smem S4x3 .f32) (arg3 : Memref sig .tc .vmem S25x288x128 .i32) (arg4 : Memref sig .tc .vmem S25x144x128 .f32) (arg5 : Memref sig .tc .vmem S128x256 .bf16) (arg6 : Memref sig .tc .vmem S25x4x8x256 .f32) (arg7 : Memref sig .tc .vmem S128x256 .f32)
    (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty)
    (i : ℕ) (g : ℕ) (_ : Unit) : sProp 𝕄G :=
  iprop(∃ f7 f6, (arg1.view.loc (c : Thread nD τ) ↦[arg1.view.set]{fullShare.right} X1) ∗ (arg2.view.loc (c : Thread nD τ) ↦[arg2.view.set]{fullShare} X2)
    ∗ Held (F := F) c arg3 arg4 arg5 arg7 X3 X4 X5 f7 ∗ (arg6.view.loc (c : Thread nD τ) ↦[arg6.view.set]{fullShare} f6)
    ∗ ⌜arg7.view.read (Elt F) f7 = expV (arg3.view.read (Elt F) X3) (arg5.view.read (Elt F) X5) (min g 24) 0⌝
    ∗ ⌜∀ (g' : Fin 25) (ch : Fin 4) (j : Fin 8) (p : Fin 256), g'.val < g → arg6.view.read (Elt F) f6 (ix4 g' ch j p)
        = groupV (arg1.view.read (Elt F) X1) (arg2.view.read (Elt F) X2) (arg3.view.read (Elt F) X3) (arg4.view.read (Elt F) X4) (arg5.view.read (Elt F) X5) i g'.val ch (ix4 0 0 j p)⌝)

theorem outer_step (c : Dev nD) (i : grid0.Coords) (arg1 : Memref sig .tc .smem S1800 .i32) (harg1 : arg1.IsWhole) (arg2 : Memref sig .tc .smem S4x3 .f32) (harg2 : arg2.IsWhole) (arg3 : Memref sig .tc .vmem S25x288x128 .i32) (harg3 : arg3.IsWhole) (arg4 : Memref sig .tc .vmem S25x144x128 .f32) (harg4 : arg4.IsWhole) (arg5 : Memref sig .tc .vmem S128x256 .bf16) (harg5 : arg5.IsWhole) (arg6 : Memref sig .tc .vmem S25x4x8x256 .f32) (harg6 : arg6.IsWhole) (arg7 : Memref sig .tc .vmem S128x256 .f32) (harg7 : arg7.IsWhole) (arg0 v16 : BitVec 32) (k0_t1 : Fin k0_t1_loop.trips)
    (X1 : BufTy.Contents (Elt F) arg1.view.ty) (X2 : BufTy.Contents (Elt F) arg2.view.ty)
    (hv : ∀ j, Count (arg1.view.read (Elt F) X1 j))
    (X3 : BufTy.Contents (Elt F) arg3.view.ty) (X4 : BufTy.Contents (Elt F) arg4.view.ty) (X5 : BufTy.Contents (Elt F) arg5.view.ty) (acc : Unit) :
    outerI (F := F) c arg1 arg2 arg3 arg4 arg5 arg6 arg7 X1 X2 X3 X4 X5 (i 0).val k0_t1.val acc
    ⊢ wp frame (wpE (defs₀ (F := F)) 𝒱₀ (c : Thread nD τ) none) Set.univ (k0_t1_body (F := F) i arg1 harg1 arg2 harg2 arg3 harg3 arg4 harg4 arg5 harg5 arg6 harg6 arg7 harg7 arg0 v16 k0_t1 acc)
      (outerI (F := F) c arg1 arg2 arg3 arg4 arg5 arg6 arg7 X1 X2 X3 X4 X5 (i 0).val (k0_t1.val + 1)) := by
  have hg : k0_t1.val < 25 := lt_of_lt_of_eq k0_t1.isLt trips1
  unfold outerI
  iintro ⟨%f7, %f6, H1, H2, HH, H6, %h7, %h6⟩
  rw [Nat.min_eq_left (by omega)] at h7
  iapply (wp_wand_r frame (wpE (defs₀ (F := F)) 𝒱₀ (c : Thread nD τ) none) Set.univ)
  isplitl [H1 H2 HH H6]
  · iapply (group_trip (F := F) c i arg1 harg1 arg2 harg2 arg3 harg3 arg4 harg4 arg5 harg5 arg6 harg6 arg7 harg7 arg0 v16 k0_t1 X1 X2 hv X3 X4 X5 f6 f7 h7)
    isplitl [H1]; · iexact H1
    isplitl [H2]; · iexact H2
    isplitl [HH]; · iexact HH
    iexact H6
  · iintro %yld ⟨H1, H2, ⟨%f7', %h7', HH⟩, H6⟩
    iexists f7', _
    isplitl [H1]; · iexact H1
    isplitl [H2]; · iexact H2
    isplitl [HH]; · iexact HH
    isplitl [H6]; · iexact H6
    isplitr
    · ipureintro; exact h7'
    · ipureintro
      intro g' ch j p hlt
      rw [read_rows]
      by_cases h : g'.val = k0_t1.val
      · rw [if_pos h, h]
      · rw [if_neg h]; exact h6 g' ch j p (by omega)

end Cert.KernelIdeal.Raster
-- ==== Proof.KIBody.lean ====
/- The kernel body at one grid step and the launch: after the body the output block holds every group's rows
   (`blockV`), whatever it and the exponents' buffer held before; so at the end of the run the result array holds
   every step's block, and every semaphore is at zero. -/
module

public import proofs.«01_k».proof.Proof.KIGroup
public import Idealize.ShloMosaic.Lib.Pipeline.ValueKit

@[expose] public section

set_option maxRecDepth 8192
set_option maxHeartbeats 4000000

noncomputable section

namespace Cert.KernelIdeal.Raster

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄G" => MT nD τ sig Unit (Elt F) ℕ (UR sig nD τ) ℕ

/-- The output block of grid step `i`, from the contents of the five operands: group `y 0`, channel `y 1`, tile `y 2`, pixel `y 3`. -/
def blockV (N : S1800.Idx → BitVec 32) (B : Vec F S4x3 .f32) (W : Vec F S25x288x128 .i32) (C : Vec F S25x144x128 .f32) (M : Vec F S128x256 .bf16)
    (i : ℕ) : FVec F S25x4x8x256 .f32 :=
  fun y => groupV N B W C M i (y 0).val (y 1) (ix4 0 0 (y 2) (y 3))

/-- The body on any staging memrefs. -/
theorem sound_kernel (c : Dev nD) (i : grid0.Coords) (arg1 : Memref sig .tc .smem S1800 .i32) (harg1 : arg1.IsWhole) (arg2 : Memref sig .tc .smem S4x3 .f32) (harg2 : arg2.IsWhole) (arg3 : Memref sig .tc .vmem S25x288x128 .i32) (harg3 : arg3.IsWhole) (arg4 : Memref sig .tc .vmem S25x144x128 .f32) (harg4 : arg4.IsWhole) (arg5 : Memref sig .tc .vmem S128x256 .bf16) (harg5 : arg5.IsWhole) (arg6 : Memref sig .tc .vmem S25x4x8x256 .f32) (harg6 : arg6.IsWhole) (arg7 : Memref sig .tc .vmem S128x256 .f32) (harg7 : arg7.IsWhole)
    (N : S1800.Idx → BitVec 32) (hN : ∀ j, Count (N j)) (B : Vec F S4x3 .f32) (W : Vec F S25x288x128 .i32) (C : Vec F S25x144x128 .f32) (M : Vec F S128x256 .bf16)
    (K : PUnit → sProp 𝕄G) :
    iprop(owns (c : Thread nD τ) arg1 fullShare.right N ∗ owns (c : Thread nD τ) arg2 fullShare B ∗ owns (c : Thread nD τ) arg3 fullShare W
      ∗ owns (c : Thread nD τ) arg4 fullShare C ∗ owns (c : Thread nD τ) arg5 fullShare M ∗ (∃ d, owns (c : Thread nD τ) arg6 fullShare d)
      ∗ (∃ d, owns (c : Thread nD τ) arg7 fullShare d)
      ∗ (iprop(owns (c : Thread nD τ) arg1 fullShare.right N ∗ owns (c : Thread nD τ) arg2 fullShare B ∗ owns (c : Thread nD τ) arg3 fullShare W
          ∗ owns (c : Thread nD τ) arg4 fullShare C ∗ owns (c : Thread nD τ) arg5 fullShare M ∗ owns (c : Thread nD τ) arg6 fullShare (blockV N B W C M (i 0).val)
          ∗ (∃ d, owns (c : Thread nD τ) arg7 fullShare d)) -∗ K ⟨⟩))
    ⊢ wp frame (wpE (defs₀ (F := F)) 𝒱₀ (c : Thread nD τ) none) Set.univ (cc0_raster (F := F) i arg1 harg1 arg2 harg2 arg3 harg3 arg4 harg4 arg5 harg5 arg6 harg6 arg7 harg7) K := by
  unfold owns
  iintro ⟨⟨%X1, %h1, H1⟩, ⟨%X2, %h2, H2⟩, ⟨%X3, %h3, H3⟩, ⟨%X4, %h4, H4⟩, ⟨%X5, %h5, H5⟩, ⟨%d6, %f6, -, H6⟩, ⟨%d7, %f7, -, H7⟩, Hk⟩
  subst h1; subst h2; subst h3; subst h4; subst h5
  rw [cc0_raster_eq_skeleton]
  unfold cc0_raster_skel
  sl_exec
  sl_for (outerI (F := F) c arg1 arg2 arg3 arg4 arg5 arg6 arg7 X1 X2 X3 X4 X5 (i 0).val) $$ [H1 H2 H3 H4 H5 H6 H7]
  case region =>
    intro k acc
    exact outer_step (F := F) c i arg1 harg1 arg2 harg2 arg3 harg3 arg4 harg4 arg5 harg5 arg6 harg6 arg7 harg7 _ _ k X1 X2 hN X3 X4 X5 acc
  · unfold outerI
    iexists _, f6
    isplitl [H1]; · iexact H1
    isplitl [H2]; · iexact H2
    isplitl [H3 H4 H5 H7]
    · isplitl [H3]; · iexact H3
      isplitl [H4]; · iexact H4
      isplitl [H5]; · iexact H5
      iexact H7
    isplitl [H6]; · iexact H6
    isplitr
    · ipureintro
      show View.read (Elt F) arg7.view (arg7.view.writes (Elt F) arg7.view.junk [⟨Rect.unit (s := S128x256) ![0, 0] S128x256.size inb_S128x256_S128x256_0_0, _⟩]) = _
      rw [View.read_writes_full]
      rfl
    · ipureintro
      intro g' _ _ _ h
      omega
  iintro %acc HI
  unfold outerI
  icases HI with ⟨%f7', %f6', H1, H2, ⟨H3, H4, H5, H7⟩, H6, -, %hrows⟩
  sl_exec
  sl_step
  iapply Hk
  isplitl [H1]; · iexists _; isplitr; swap; · iexact H1
                  ipureintro; rfl
  isplitl [H2]; · iexists _; isplitr; swap; · iexact H2
                  ipureintro; rfl
  isplitl [H3]; · iexists _; isplitr; swap; · iexact H3
                  ipureintro; rfl
  isplitl [H4]; · iexists _; isplitr; swap; · iexact H4
                  ipureintro; rfl
  isplitl [H5]; · iexists _; isplitr; swap; · iexact H5
                  ipureintro; rfl
  isplitl [H6]
  · iexists _; isplitr; swap; · iexact H6
    ipureintro
    funext y
    idx_vars y
    exact hrows _ _ _ _ (lt_of_lt_of_eq (Fin.isLt _) trips1.symm)
  · iexists _, _; isplitr; swap; · iexact H7
    ipureintro; rfl

/-! ## The launch -/

variable (m : (ℓ : Loc nD τ sig) → Buf (Elt F) ℓ) (ρ : Dev nD → PrngReg)

/-- The proof data: the arrays as the region finds them; after the body each input's buffer at its block and the
    output's at `blockV` of the input blocks; the scratch and the generator register at anything. -/
def dats (_ : Fin 1) (c : Dev nD) : Dat τ (Elt F) Unit ℕ (UR sig nD τ) ℕ (cfgA m) c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => blockV (F := F) (V m 0 main_arg0) (iblk m c 0 t) (iblk m c 1 t) (iblk m c 2 t) (iblk m c 3 t) (grid0.coords t 0).val
  Φ _ := iprop(Pipeline.ΦA spec0 c ∗ Pipeline.ΦT pre0 (adm m 0).1 c)
  q _ := fullShare
  owed _ := 0

theorem A_eq (c : Dev nD) (w : Fin (cfgA m).W) : (dats m 0 c).A w = V m c (Pipeline.arrRef spec0 w) := by dsimp only [dats]
theorem after0_0 (c : Dev nD) (t : Fin (cfgA m).N) : (dats m 0 c).after 0 t = iblk m c 0 t := rfl
theorem after0_1 (c : Dev nD) (t : Fin (cfgA m).N) : (dats m 0 c).after 1 t = iblk m c 1 t := rfl
theorem after0_2 (c : Dev nD) (t : Fin (cfgA m).N) : (dats m 0 c).after 2 t = iblk m c 2 t := rfl
theorem after0_3 (c : Dev nD) (t : Fin (cfgA m).N) : (dats m 0 c).after 3 t = iblk m c 3 t := rfl
theorem after0_4 (c : Dev nD) (t : Fin (cfgA m).N) : (dats m 0 c).after 4 t
    = blockV (F := F) (V m 0 main_arg0) (iblk m c 0 t) (iblk m c 1 t) (iblk m c 2 t) (iblk m c 3 t) (grid0.coords t 0).val := rfl

/-- The table of counts is the first argument as launched. -/
theorem counts_eq (c : Dev nD) : V m 0 main_arg0 = m ((c : Thread nD τ).loc main_arg0) := by
  obtain rfl : c = 0 := Subsingleton.elim _ _
  exact V_main_arg0 m 0

/-- Each input's staging buffer holds its block when the body runs. -/
theorem before0_0 (c : Dev nD) (t : Fin (cfgA m).N) (d) : (dats m 0 c).before 0 t d = iblk m c 0 t :=
  before0_0_of m (dats m 0 c) (A_eq m c 0) (after0_0 m c) t d
theorem before0_1 (c : Dev nD) (t : Fin (cfgA m).N) (d) : (dats m 0 c).before 1 t d = iblk m c 1 t :=
  before0_1_of m (dats m 0 c) (A_eq m c 1) (after0_1 m c) t d
theorem before0_2 (c : Dev nD) (t : Fin (cfgA m).N) (d) : (dats m 0 c).before 2 t d = iblk m c 2 t :=
  before0_2_of m (dats m 0 c) (A_eq m c 2) (after0_2 m c) t d
theorem before0_3 (c : Dev nD) (t : Fin (cfgA m).N) (d) : (dats m 0 c).before 3 t d = iblk m c 3 t :=
  before0_3_of m (dats m 0 c) (A_eq m c 3) (after0_3 m c) t d

/-- The scratch as the class's invariant holds it is the body's memref at some contents. -/
theorem scratch_eq (c : Dev nD) : (Pipeline.scopedRest (Ix := Unit) (Name := ℕ) (U := UR sig nD τ) (Lvl := ℕ) (Val := Elt F) spec0 c : sProp 𝕄G)
    = iprop(∃ f : Buf (Elt F) ((c : Thread nD τ).loc cc0_scratch0), (c : Thread nD τ).loc cc0_scratch0 ↦[(Memref.whole cc0_scratch0).view.set]{fullShare} f) := by
  have h : ((Memref.whole cc0_scratch0).view.set : Finset (Idx ((c : Thread nD τ).loc cc0_scratch0))) = Finset.univ := View.set_whole _
  rw [scopedRest0_eq, h]

def bodyPre (c : Dev nD) (t : Fin (cfgA m).N) : sProp 𝕄G :=
  iprop((dats m 0 c).Φ t.castSucc ∗ (dats m 0 c).owesAt () t.castSucc
    ∗ (∃ d, owns (c : Thread nD τ) (st0_0 m t) fullShare ((dats m 0 c).before 0 t d))
    ∗ (∃ d, owns (c : Thread nD τ) (st0_1 m t) fullShare ((dats m 0 c).before 1 t d))
    ∗ (∃ d, owns (c : Thread nD τ) (st0_2 m t) fullShare ((dats m 0 c).before 2 t d))
    ∗ (∃ d, owns (c : Thread nD τ) (st0_3 m t) fullShare ((dats m 0 c).before 3 t d))
    ∗ (∃ d, owns (c : Thread nD τ) (st0_4 m t) fullShare ((dats m 0 c).before 4 t d)))

def bodyPost (c : Dev nD) (t : Fin (cfgA m).N) : sProp 𝕄G :=
  iprop((dats m 0 c).Φ t.succ ∗ (dats m 0 c).owesAt () t.succ
    ∗ owns (c : Thread nD τ) (st0_0 m t) fullShare ((dats m 0 c).after 0 t)
    ∗ owns (c : Thread nD τ) (st0_1 m t) fullShare ((dats m 0 c).after 1 t)
    ∗ owns (c : Thread nD τ) (st0_2 m t) fullShare ((dats m 0 c).after 2 t)
    ∗ owns (c : Thread nD τ) (st0_3 m t) fullShare ((dats m 0 c).after 3 t)
    ∗ owns (c : Thread nD τ) (st0_4 m t) fullShare ((dats m 0 c).after 4 t))

theorem sound_body (c : Dev nD) (t : Fin (cfgA m).N) (hN : ∀ j, Count (V m 0 main_arg0 j)) :
    bodyPre m c t ⊢ wp frame (wpE (defs₀ (F := F)) 𝒱₀ (c : Thread nD τ) none) Set.univ (bodyAt0 m t) (fun _ => bodyPost m c t) := by
  unfold bodyPre bodyPost bodyAt0
  simp only [before0_0, before0_1, before0_2, before0_3]
  rw [show (dats m 0 c).owesAt () t.succ = (dats m 0 c).owesAt () t.castSucc from rfl,
    show (dats m 0 c).Φ t.succ = iprop(Pipeline.ΦA spec0 c ∗ Pipeline.ΦT pre0 (adm m 0).1 c) from rfl, show (dats m 0 c).Φ t.castSucc = iprop(Pipeline.ΦA spec0 c ∗ Pipeline.ΦT pre0 (adm m 0).1 c) from rfl,
    after0_0, after0_1, after0_2, after0_3, after0_4]
  unfold Pipeline.ΦA
  rw [scratch_eq, tables_eq]
  iintro ⟨⟨⟨⟨%f7, Hs⟩, Hr⟩, Ht⟩, Ho, ⟨%d0, H0⟩, ⟨%d1, H1⟩, ⟨%d2, H2⟩, ⟨%d3, H3⟩, ⟨%d4, H4⟩⟩
  iapply (sound_kernel (F := F) c (grid0.coords t) _ _ _ _ _ _ _ _ _ _ _ _ _ _ (V m 0 main_arg0) hN (iblk m c 0 t) (iblk m c 1 t) (iblk m c 2 t) (iblk m c 3 t) _)
  isplitl [Ht]
  · unfold owns; iexists (V m 0 main_arg0); isplitr; · ipureintro; rfl
    iexact Ht
  isplitl [H0]; · iexact H0
  isplitl [H1]; · iexact H1
  isplitl [H2]; · iexact H2
  isplitl [H3]; · iexact H3
  isplitl [H4]; · iexists _; iexact H4
  isplitl [Hs]
  · unfold owns; iexists f7, f7; isplitr; · ipureintro; rfl
    iexact Hs
  iintro ⟨Ht, H0, H1, H2, H3, H4, ⟨%d7, Hs⟩⟩
  unfold owns
  icases Ht with ⟨%f1, %e1, Ht⟩
  have e1' : f1 = V m 0 main_arg0 := e1
  subst e1'
  icases Hs with ⟨%f7', -, Hs⟩
  isplitl [Ht Hs Hr]
  · isplitl [Hs Hr]
    · isplitl [Hs]; · iexists f7'; iexact Hs
      iexact Hr
    iexact Ht
  isplitl [Ho]; · iexact Ho
  isplitl [H0]; · iexact H0
  isplitl [H1]; · iexact H1
  isplitl [H2]; · iexact H2
  isplitl [H3]; · iexact H3
  iexact H4

theorem body_obligation (c : Dev nD) (hN : ∀ j, Count (V m 0 main_arg0 j)) : BodyObligation (dats (F := F) m 0 c) (defs₀ (F := F)) 𝒱₀ () Set.univ := fun t => by
  rw [bigSep_W0, bigSep_W0, defs₀_row]
  exact triple_restated (sound_body m c t hN) rfl .rfl fun _ => .rfl

set_option backward.isDefEq.respectTransparency.types false in
/-- Every execution ends, with every array at what the proof data say and every semaphore at zero. -/
theorem run_blocks (hN : ∀ j, Count (V (F := F) m 0 main_arg0 j)) : θ_run defs (onTc (τ := τ) (main (F := F))) (s₀ m ρ)
    (fun r => Pipeline.FramePost (Pipeline.pin pcfgs (adm m)) (dats m) 0 (V m) r ∧ r.2.sem = fun _ => 0) :=
  Pipeline.θ_run_frameP (Q' := _) pcfgs (adm m) (dats m) (0 : Fin 1) launch0 defs₀ 𝒱₀ m ρ main
    (hbody := fun c => (body_obligation m c hN).loose) (hshare := fun c => (dats m 0 c).share_full fun _ => rfl)
    (howed := fun _ _ => rfl) (V := V m) (hmain := hmain m) (hA := A_eq m) (hpf := table_at m) (hΦ := fun _ _ => rfl)

/-! ## The result array -/

/-- Grid step `i`'s 25 groups of an array over all 1800. -/
def wordBlk (L : Vec F S1800x288x128 .i32) (i : ℕ) : Vec F S25x288x128 .i32 :=
  fun z => L (ix3 ⟨(i * 25 + (z 0).val) % 1800, Nat.mod_lt _ (by decide)⟩ (z 1) (z 2))

/-- Grid step `i`'s 25 groups of the colours. -/
def colBlk (C : Vec F S1800x144x128 .f32) (i : ℕ) : Vec F S25x144x128 .f32 :=
  fun z => C (ix3 ⟨(i * 25 + (z 0).val) % 1800, Nat.mod_lt _ (by decide)⟩ (z 1) (z 2))

/-- The result: group `y 0` is group `y 0 % 25` of grid step `y 0 / 25`. -/
def resultV (N : S1800.Idx → BitVec 32) (B : Vec F S4x3 .f32) (L : Vec F S1800x288x128 .i32) (C : Vec F S1800x144x128 .f32) (M : Vec F S128x256 .bf16) :
    FVec F S1800x4x8x256 .f32 :=
  fun y => groupV N B (wordBlk L ((y 0).val / 25)) (colBlk C ((y 0).val / 25)) M ((y 0).val / 25) ((y 0).val % 25) (y 1) (ix4 0 0 (y 2) (y 3))

/-! The windows with their index maps, which read no table: each is the pipeline's, whatever the table holds. -/

abbrev win0_0 : Pipeline.Window sig grid0 :=
  Pipeline.Window.ofSpec (Memref.whole main_arg1) S4x3.size cc0_transform_0 reads0_0 false false 1 stage0_0 sem0_0
    hrank0 hreads0_0 hinb0_0 nbuf0_0 (Memref.isWhole_whole _) hwx0_0 hstage0_0
abbrev win0_1 : Pipeline.Window sig grid0 :=
  Pipeline.Window.ofSpec (Memref.whole main_arg2) S25x288x128.size cc0_transform_1 reads0_1 false false 2 stage0_1 sem0_1
    hrank0 hreads0_1 hinb0_1 nbuf0_1 (Memref.isWhole_whole _) hwx0_1 hstage0_1
abbrev win0_2 : Pipeline.Window sig grid0 :=
  Pipeline.Window.ofSpec (Memref.whole main_arg3) S25x144x128.size cc0_transform_2 reads0_2 false false 2 stage0_2 sem0_2
    hrank0 hreads0_2 hinb0_2 nbuf0_2 (Memref.isWhole_whole _) hwx0_2 hstage0_2
abbrev win0_3 : Pipeline.Window sig grid0 :=
  Pipeline.Window.ofSpec (Memref.whole main_v25) S128x256.size cc0_transform_3 reads0_3 false true 1 stage0_3 sem0_3
    hrank0 hreads0_3 hinb0_3 nbuf0_3 (Memref.isWhole_whole _) hwx0_3 hstage0_3
abbrev win0_4 : Pipeline.Window sig grid0 :=
  Pipeline.Window.ofSpec (Memref.whole main_v26) S25x4x8x256.size cc0_transform_4 reads0_4 true false 2 stage0_4 sem0_4
    hrank0 hreads0_4 hinb0_4 nbuf0_4 (Memref.isWhole_whole _) hwx0_4 hstage0_4

theorem iblk_0 (c : Dev nD) (t : Fin grid0.N) : iblk m c 0 t = (win0_0.blk t).view.read (Elt F) (V m c main_arg1) := rfl
theorem iblk_1 (c : Dev nD) (t : Fin grid0.N) : iblk m c 1 t = (win0_1.blk t).view.read (Elt F) (V m c main_arg2) := rfl
theorem iblk_2 (c : Dev nD) (t : Fin grid0.N) : iblk m c 2 t = (win0_2.blk t).view.read (Elt F) (V m c main_arg3) := rfl
theorem iblk_3 (c : Dev nD) (t : Fin grid0.N) : iblk m c 3 t = (win0_3.blk t).view.read (Elt F) (V m c main_v25) := rfl

/-! Where each window's block lies, decided over the grid. -/

theorem index0 : ∀ t : Fin grid0.N, win0_0.index t = ![0, 0] := by decide +kernel
theorem index1 : ∀ t : Fin grid0.N, win0_1.index t = ![(grid0.coords t 0).val, 0, 0] := by decide +kernel
theorem index2 : ∀ t : Fin grid0.N, win0_2.index t = ![(grid0.coords t 0).val, 0, 0] := by decide +kernel
theorem index3 : ∀ t : Fin grid0.N, win0_3.index t = ![0, 0] := by decide +kernel
theorem index4 : ∀ t : Fin grid0.N, win0_4.index t = ![(grid0.coords t 0).val, 0, 0, 0] := by decide +kernel

theorem iblk0 (c : Dev nD) (t : Fin grid0.N) : iblk m c 0 t = m ((c : Thread nD τ).loc main_arg1) := by
  rw [← V_main_arg1 m c]
  rw [iblk_0]
  funext j
  blk_simp
  exact congrArg _ (by blk_ext [index0])
theorem iblk3 (c : Dev nD) (t : Fin grid0.N) : iblk m c 3 t = V m c main_v25 := by
  rw [iblk_3]
  funext j
  blk_simp
  exact congrArg _ (by blk_ext [index3])
theorem iblk1 (c : Dev nD) (t : Fin grid0.N) : iblk m c 1 t = wordBlk (F := F) (m ((c : Thread nD τ).loc main_arg2)) (grid0.coords t 0).val := by
  rw [← V_main_arg2 m c]
  rw [iblk_1]
  funext j
  have hi : (grid0.coords t 0).val < 72 := (grid0.coords t 0).isLt
  have hj : (j 0).val < 25 := (j 0).isLt
  unfold wordBlk
  blk_simp
  refine congrArg _ (funext fun a => Fin.ext ?_)
  fin_cases a
  · show ((win0_1.blk t).view.emb j 0).val = ((grid0.coords t 0).val * 25 + (j 0).val) % 1800
    blk_simp [index1]
    show (grid0.coords t 0).val * 25 + (j 0).val = _
    omega
  · show ((win0_1.blk t).view.emb j 1).val = (j 1).val
    blk_simp [index1]
  · show ((win0_1.blk t).view.emb j 2).val = (j 2).val
    blk_simp [index1]
theorem iblk2 (c : Dev nD) (t : Fin grid0.N) : iblk m c 2 t = colBlk (F := F) (m ((c : Thread nD τ).loc main_arg3)) (grid0.coords t 0).val := by
  rw [← V_main_arg3 m c]
  rw [iblk_2]
  funext j
  have hi : (grid0.coords t 0).val < 72 := (grid0.coords t 0).isLt
  have hj : (j 0).val < 25 := (j 0).isLt
  unfold colBlk
  blk_simp
  refine congrArg _ (funext fun a => Fin.ext ?_)
  fin_cases a
  · show ((win0_2.blk t).view.emb j 0).val = ((grid0.coords t 0).val * 25 + (j 0).val) % 1800
    blk_simp [index2]
    show (grid0.coords t 0).val * 25 + (j 0).val = _
    omega
  · show ((win0_2.blk t).view.emb j 1).val = (j 1).val
    blk_simp [index2]
  · show ((win0_2.blk t).view.emb j 2).val = (j 2).val
    blk_simp [index2]

theorem final_out (c : Dev nD) : (dats m 0 c).arrAt 4 (cfgA m).N
    = resultV (F := F) (m ((c : Thread nD τ).loc main_arg0)) (m ((c : Thread nD τ).loc main_arg1)) (m ((c : Thread nD τ).loc main_arg2)) (m ((c : Thread nD τ).loc main_arg3)) (V m c main_v25) := by
  refine (dats m 0 c).arrAt_eq_of_covers 4 _ (show win0_4.Covers from by decide +kernel) fun t hf y => ?_
  change Fin grid0.N at t
  change S25x4x8x256.Idx at y
  blk_simp
  rw [after0_4, counts_eq m c, iblk0, iblk1, iblk2, iblk3]
  show blockV (F := F) _ _ _ _ _ _ y = resultV _ _ _ _ _ ((win0_4.blk t).view.emb y)
  have hi : (grid0.coords t 0).val < 72 := (grid0.coords t 0).isLt
  have hy : (y 0).val < 25 := (y 0).isLt
  have e0 : ((win0_4.blk t).view.emb y 0).val = (grid0.coords t 0).val * 25 + (y 0).val := by blk_simp [index4]
  have e1 : ((win0_4.blk t).view.emb y 1).val = (y 1).val := by blk_simp [index4]
  have e2 : ((win0_4.blk t).view.emb y 2).val = (y 2).val := by blk_simp [index4]
  have e3 : ((win0_4.blk t).view.emb y 3).val = (y 3).val := by blk_simp [index4]
  have d : ((win0_4.blk t).view.emb y 0).val / 25 = (grid0.coords t 0).val := by omega
  have r : ((win0_4.blk t).view.emb y 0).val % 25 = (y 0).val := by omega
  unfold blockV resultV
  rw [d, r, show (win0_4.blk t).view.emb y 1 = y 1 from Fin.ext e1, show (win0_4.blk t).view.emb y 2 = y 2 from Fin.ext e2,
    show (win0_4.blk t).view.emb y 3 = y 3 from Fin.ext e3]

end Cert.KernelIdeal.Raster

end
-- ==== Proof.KLaunch.lean ====
/- The call up to its launch, with the counts as a prefetched table: the arrays' contents when the region is entered,
   the table's contents there, each window's block at a point of the grid, and the body at a point. -/
module

public import proofs.«01_k».proof.Proof.Gen.Kernel.Launch
public import proofs.«01_k».proof.Proof.Gen.Kernel.Loops
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.Kernel.Raster

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

abbrev 𝒱₀ : Variants := Variants.none

variable (m : (ℓ : Loc nD τ sig) → Buf (Elt F) ℓ)

/-- Core `c`'s TensorCore buffers when the region is entered: after the host operations `hostOps0`, `hostOps0_1`, `hostOps0_2`, `hostOps0_3`, `hostOps0_4`. -/
abbrev V (c : Dev nD) (b : Ref sig .tc) : Buf (Elt F) ((c : Thread nD τ).loc b) :=
  StableHlo.after (List.flatten [hostOps0, hostOps0_1, hostOps0_2, hostOps0_3, hostOps0_4]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor

set_option maxHeartbeats 800000 in
/-- @main up to the region: the lines of host operations, then the region. -/
theorem hmain : Pipeline.HMainP (Ix := Unit) (Name := ℕ) (U := UR sig nD τ) (Lvl := ℕ) pcfgs 0 defs₀ 𝒱₀ m (main (F := F)) (V m) :=
  Pipeline.hmainP_prefixes pcfgs 0 defs₀ 𝒱₀ m main [hostOps0, hostOps0_1, hostOps0_2, hostOps0_3, hostOps0_4] (by simp only [List.Forall]; exact ⟨hostOps0_sub, hostOps0_1_sub, hostOps0_2_sub, hostOps0_3_sub, hostOps0_4_sub⟩)
    (by simp only [List.Forall]; exact ⟨hostOps0_fresh, hostOps0_1_fresh, hostOps0_2_fresh, hostOps0_3_fresh, hostOps0_4_fresh⟩) main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

/-! ## The table of counts and the windows -/

/-- No block's place depends on the table, so any contents do. -/
theorem ok_any (pf : pre0.Contents (Elt F)) : ok0 pf := by unfold ok0; trivial

/-- The prefetched table at its contents when the region is entered. -/
abbrev tab : (pcfg0 (F := F)).Adm := ⟨fun k => V m 0 (pre0.ref k), ok_any (F := F) (fun k => V m 0 (pre0.ref k))⟩

/-- The same, for each of the program's calls (there is one). -/
abbrev adm : (p : Fin 1) → (pcfgs (F := F) p).Adm := fun _ => tab m

/-- The pipeline at that table. -/
abbrev cfgA : Cfg sig Λ₀ := cfg0 (adm m 0)

/-- Every core finds the table at those contents. -/
theorem table_at (c : Dev nD) (k : Fin pre0.K) : V m c (pre0.ref k) = (adm m 0).1 k := by
  obtain rfl : c = 0 := Subsingleton.elim _ _
  rfl

/-- Window `w`'s block at point `t`, read off its array as the region finds it (`V`). -/
def iblk (c : Dev nD) (w : Fin (cfgA m).W) (t : Fin (cfgA m).N) : (((cfgA m).win w).xblock ((cfgA m).grid.coords t)).Idx → Elt F ((cfgA m).win w).elt :=
  (((cfgA m).win w).blk t).view.read (Elt F) (V m c (Pipeline.arrRef spec0 w))

/-! Each input window's staging buffer holds its block at every point, fetched there or not. -/

theorem before0_0_of {c : Dev nD} (dat : Dat τ (Elt F) Unit ℕ (UR sig nD τ) ℕ (cfgA m) c) (hA : dat.A 0 = V m c (Pipeline.arrRef spec0 0))
    (hafter : ∀ t, dat.after 0 t = iblk m c 0 t) (t : Fin (cfgA m).N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ (cfgA m) c) (hA : dat.A 1 = V m c (Pipeline.arrRef spec0 1))
    (hafter : ∀ t, dat.after 1 t = iblk m c 1 t) (t : Fin (cfgA m).N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ (cfgA m) c) (hA : dat.A 2 = V m c (Pipeline.arrRef spec0 2))
    (hafter : ∀ t, dat.after 2 t = iblk m c 2 t) (t : Fin (cfgA m).N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ (cfgA m) c) (hA : dat.A 3 = V m c (Pipeline.arrRef spec0 3))
    (hafter : ∀ t, dat.after 3 t = iblk m c 3 t) (t : Fin (cfgA m).N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- The current staging memref of each window at point `t`: which of its buffers it is on. -/
abbrev st0_0 (t : Fin (cfgA m).N) := ((cfgA m).win 0).stage ((cfgA m).slots t 0)
abbrev st0_1 (t : Fin (cfgA m).N) := ((cfgA m).win 1).stage ((cfgA m).slots t 1)
abbrev st0_2 (t : Fin (cfgA m).N) := ((cfgA m).win 2).stage ((cfgA m).slots t 2)
abbrev st0_3 (t : Fin (cfgA m).N) := ((cfgA m).win 3).stage ((cfgA m).slots t 3)
abbrev st0_4 (t : Fin (cfgA m).N) := ((cfgA m).win 4).stage ((cfgA m).slots t 4)

/-- The kernel body at point `t`, on what the pipeline calls it with. -/
abbrev bodyAt0 (t : Fin (cfgA m).N) : Prog (TpuEff nD τ sig (Elt F) Λ₀ .tc) PUnit :=
  cc0_raster (grid0.coords t) (Memref.whole main_arg0) (Memref.isWhole_whole _) (spec0_0.stage ((cfgA m).slots t 0)) (hstage0_0 (((cfgA m).slots t 0).cast nbuf0_0)) (spec0_1.stage ((cfgA m).slots t 1)) (hstage0_1 (((cfgA m).slots t 1).cast nbuf0_1)) (spec0_2.stage ((cfgA m).slots t 2)) (hstage0_2 (((cfgA m).slots t 2).cast nbuf0_2)) (spec0_3.stage ((cfgA m).slots t 3)) (hstage0_3 (((cfgA m).slots t 3).cast nbuf0_3)) (spec0_4.stage ((cfgA m).slots t 4)) (hstage0_4 (((cfgA m).slots t 4).cast nbuf0_4)) (Memref.whole cc0_scratch0) (Memref.isWhole_whole _)

/-- The body table's row at point `t`'s slots is the body as `bodyAt0` spells it. -/
theorem defs₀_row (t : Fin (cfgA m).N) : defs₀ (F := F) .tc (cfgA m).body ((cfgA m).bodyArgs t ((cfgA m).slots t)) = bodyAt0 m t := by
  unfold defs₀; rw [Defs.onTc_tc]

/-- The table as the region hands it to the body is the body's memref at half the full share. -/
theorem tables_eq (c : Dev nD) : (Pipeline.ΦT (U := UR sig nD τ) pre0 (adm m 0).1 c : sProp (MT nD τ sig Unit (Elt F) ℕ (UR sig nD τ) ℕ))
    = iprop((c : Thread nD τ).loc main_arg0 ↦[(Memref.whole main_arg0).view.set]{fullShare.right} V m 0 main_arg0) := by
  have h : ((Memref.whole main_arg0).view.set : Finset (Idx ((c : Thread nD τ).loc main_arg0))) = Finset.univ := View.set_whole _
  rw [h]
  unfold Pipeline.ΦT Pipeline.prefHeld
  exact bigSep_univ_eq_bigSepL [(0 : Fin 1)] (by decide) (by decide) _

end Cert.Kernel.Raster

end
-- ==== Proof.KFrame.lean ====
/- The machine program's frame: it ends, without a fault, whatever the floats are, with its arguments unchanged and
   every semaphore at zero. Nothing is said of what it computes, so the two loops carry only that the buffers are
   there; the one fact a run needs is that a group's count of chunks is between one and eighteen. -/
module

public import proofs.«01_k».proof.Proof.KIBody
public import proofs.«01_k».proof.Proof.KLaunch
public import Idealize.ShloMosaic.Lib.LoopRemainder

@[expose] public section

set_option maxRecDepth 8192
set_option maxHeartbeats 4000000

noncomputable section

namespace Cert.Kernel.Raster

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose cellOf)

variable {F : FTy → Type} [FloatOps F]

local notation "𝕄G" => MT nD τ sig Unit (Elt F) ℕ (UR sig nD τ) ℕ

/-- The bound the body checks of a count, from the count's range. -/
theorem chk {v : BitVec 32} (h : Cert.KernelIdeal.Raster.Count v) (g : Fin k0_t1_loop.trips) : k0_chk1 g v :=
  Cert.KernelIdeal.Raster.Count.chk h g

/-- Between groups: the buffers, the output and the exponents at anything. -/
def someI (c : Dev nD) (arg1 : Memref sig .tc .smem S1800 .i32) (arg2 : Memref sig .tc .smem S4x3 .f32) (arg3 : Memref sig .tc .vmem S25x288x128 .i32) (arg4 : Memref sig .tc .vmem S25x144x128 .f32) (arg5 : Memref sig .tc .vmem S128x256 .bf16) (arg6 : Memref sig .tc .vmem S25x4x8x256 .f32) (arg7 : Memref sig .tc .vmem S128x256 .f32)
    (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty)
    (_ : ℕ) (_ : Unit) : sProp 𝕄G :=
  iprop(∃ f7 f6, (arg1.view.loc (c : Thread nD τ) ↦[arg1.view.set]{fullShare.right} X1) ∗ (arg2.view.loc (c : Thread nD τ) ↦[arg2.view.set]{fullShare} X2)
    ∗ (arg3.view.loc (c : Thread nD τ) ↦[arg3.view.set]{fullShare} X3) ∗ (arg4.view.loc (c : Thread nD τ) ↦[arg4.view.set]{fullShare} X4)
    ∗ (arg5.view.loc (c : Thread nD τ) ↦[arg5.view.set]{fullShare} X5) ∗ (arg6.view.loc (c : Thread nD τ) ↦[arg6.view.set]{fullShare} f6)
    ∗ (arg7.view.loc (c : Thread nD τ) ↦[arg7.view.set]{fullShare} f7))

/-- One group. -/
theorem group_safe (c : Dev nD) (i : grid0.Coords) (arg1 : Memref sig .tc .smem S1800 .i32) (harg1 : arg1.IsWhole) (arg2 : Memref sig .tc .smem S4x3 .f32) (harg2 : arg2.IsWhole) (arg3 : Memref sig .tc .vmem S25x288x128 .i32) (harg3 : arg3.IsWhole) (arg4 : Memref sig .tc .vmem S25x144x128 .f32) (harg4 : arg4.IsWhole) (arg5 : Memref sig .tc .vmem S128x256 .bf16) (harg5 : arg5.IsWhole) (arg6 : Memref sig .tc .vmem S25x4x8x256 .f32) (harg6 : arg6.IsWhole) (arg7 : Memref sig .tc .vmem S128x256 .f32) (harg7 : arg7.IsWhole) (arg0 v16 : BitVec 32) (k0_t1 : Fin k0_t1_loop.trips)
    (X1 : BufTy.Contents (Elt F) arg1.view.ty) (X2 : BufTy.Contents (Elt F) arg2.view.ty)
    (hv : ∀ j, Cert.KernelIdeal.Raster.Count (arg1.view.read (Elt F) X1 j))
    (X3 : BufTy.Contents (Elt F) arg3.view.ty) (X4 : BufTy.Contents (Elt F) arg4.view.ty) (X5 : BufTy.Contents (Elt F) arg5.view.ty) (acc : Unit) :
    someI (F := F) c arg1 arg2 arg3 arg4 arg5 arg6 arg7 X1 X2 X3 X4 X5 k0_t1.val acc
    ⊢ wp frame (wpE (defs₀ (F := F)) 𝒱₀ (c : Thread nD τ) none) Set.univ (k0_t1_body (F := F) i arg1 harg1 arg2 harg2 arg3 harg3 arg4 harg4 arg5 harg5 arg6 harg6 arg7 harg7 arg0 v16 k0_t1 acc)
      (someI (F := F) c arg1 arg2 arg3 arg4 arg5 arg6 arg7 X1 X2 X3 X4 X5 (k0_t1.val + 1)) := by
  unfold someI k0_t1_body
  iintro ⟨%f7, %f6, H1, H2, H3, H4, H5, H6, H7⟩
  sl_exec (disch := exact chk (hv _) _)
  sl_step
  iexists _, _
  isplitl [H1]; · iexact H1
  isplitl [H2]; · iexact H2
  isplitl [H3]; · iexact H3
  isplitl [H4]; · iexact H4
  isplitl [H5]; · iexact H5
  isplitl [H6]; · iexact H6
  iexact H7

/-- The body on any staging memrefs. -/
theorem sound_kernel (c : Dev nD) (i : grid0.Coords) (arg1 : Memref sig .tc .smem S1800 .i32) (harg1 : arg1.IsWhole) (arg2 : Memref sig .tc .smem S4x3 .f32) (harg2 : arg2.IsWhole) (arg3 : Memref sig .tc .vmem S25x288x128 .i32) (harg3 : arg3.IsWhole) (arg4 : Memref sig .tc .vmem S25x144x128 .f32) (harg4 : arg4.IsWhole) (arg5 : Memref sig .tc .vmem S128x256 .bf16) (harg5 : arg5.IsWhole) (arg6 : Memref sig .tc .vmem S25x4x8x256 .f32) (harg6 : arg6.IsWhole) (arg7 : Memref sig .tc .vmem S128x256 .f32) (harg7 : arg7.IsWhole)
    (N : S1800.Idx → BitVec 32) (hN : ∀ j, Cert.KernelIdeal.Raster.Count (N j)) (B : Vec F S4x3 .f32) (W : Vec F S25x288x128 .i32) (C : Vec F S25x144x128 .f32) (M : Vec F S128x256 .bf16)
    (K : PUnit → sProp 𝕄G) :
    iprop(owns (c : Thread nD τ) arg1 fullShare.right N ∗ owns (c : Thread nD τ) arg2 fullShare B ∗ owns (c : Thread nD τ) arg3 fullShare W
      ∗ owns (c : Thread nD τ) arg4 fullShare C ∗ owns (c : Thread nD τ) arg5 fullShare M ∗ (∃ d, owns (c : Thread nD τ) arg6 fullShare d)
      ∗ (∃ d, owns (c : Thread nD τ) arg7 fullShare d)
      ∗ (iprop(owns (c : Thread nD τ) arg1 fullShare.right N ∗ owns (c : Thread nD τ) arg2 fullShare B ∗ owns (c : Thread nD τ) arg3 fullShare W
          ∗ owns (c : Thread nD τ) arg4 fullShare C ∗ owns (c : Thread nD τ) arg5 fullShare M ∗ (∃ d, owns (c : Thread nD τ) arg6 fullShare d)
          ∗ (∃ d, owns (c : Thread nD τ) arg7 fullShare d)) -∗ K ⟨⟩))
    ⊢ wp frame (wpE (defs₀ (F := F)) 𝒱₀ (c : Thread nD τ) none) Set.univ (cc0_raster (F := F) i arg1 harg1 arg2 harg2 arg3 harg3 arg4 harg4 arg5 harg5 arg6 harg6 arg7 harg7) K := by
  unfold owns
  iintro ⟨⟨%X1, %h1, H1⟩, ⟨%X2, %h2, H2⟩, ⟨%X3, %h3, H3⟩, ⟨%X4, %h4, H4⟩, ⟨%X5, %h5, H5⟩, ⟨%d6, %f6, -, H6⟩, ⟨%d7, %f7, -, H7⟩, Hk⟩
  subst h1; subst h2; subst h3; subst h4; subst h5
  rw [cc0_raster_eq_skeleton]
  unfold cc0_raster_skel
  sl_exec
  sl_for (someI (F := F) c arg1 arg2 arg3 arg4 arg5 arg6 arg7 X1 X2 X3 X4 X5) $$ [H1 H2 H3 H4 H5 H6 H7]
  case region =>
    intro k acc
    exact group_safe (F := F) c i arg1 harg1 arg2 harg2 arg3 harg3 arg4 harg4 arg5 harg5 arg6 harg6 arg7 harg7 _ _ k X1 X2 hN X3 X4 X5 acc
  · unfold someI
    iexists _, f6
    isplitl [H1]; · iexact H1
    isplitl [H2]; · iexact H2
    isplitl [H3]; · iexact H3
    isplitl [H4]; · iexact H4
    isplitl [H5]; · iexact H5
    isplitl [H6]; · iexact H6
    iexact H7
  iintro %acc HI
  unfold someI
  icases HI with ⟨%f7', %f6', H1, H2, H3, H4, H5, H6, H7⟩
  sl_exec
  sl_step
  iapply Hk
  isplitl [H1]; · iexists _; isplitr; swap; · iexact H1
                  ipureintro; rfl
  isplitl [H2]; · iexists _; isplitr; swap; · iexact H2
                  ipureintro; rfl
  isplitl [H3]; · iexists _; isplitr; swap; · iexact H3
                  ipureintro; rfl
  isplitl [H4]; · iexists _; isplitr; swap; · iexact H4
                  ipureintro; rfl
  isplitl [H5]; · iexists _; isplitr; swap; · iexact H5
                  ipureintro; rfl
  isplitl [H6]
  · iexists _, _; isplitr; swap; · iexact H6
    ipureintro; rfl
  · iexists _, _; isplitr; swap; · iexact H7
    ipureintro; rfl

/-! ## The launch -/

variable (m : (ℓ : Loc nD τ sig) → Buf (Elt F) ℓ) (ρ : Dev nD → PrngReg)

/-- The output window, of whose contents nothing is said. -/
def forget : Fin 5 → Bool := fun w => decide (w = 4)

/-- The proof data: the arrays as the region finds them; each input's buffer at its block after the body; the output
    forgotten. -/
def dats (_ : Fin 1) (c : Dev nD) : Dat τ (Elt F) Unit ℕ (UR sig nD τ) ℕ (cfgA m) c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
  Φ _ := iprop(Pipeline.ΦA spec0 c ∗ Pipeline.ΦT pre0 (adm m 0).1 c)
  q _ := fullShare
  owed _ := 0

theorem A_eq (c : Dev nD) (w : Fin (cfgA m).W) : (dats m 0 c).A w = V m c (Pipeline.arrRef spec0 w) := by dsimp only [dats]
theorem after0_0 (c : Dev nD) (t : Fin (cfgA m).N) : (dats m 0 c).after 0 t = iblk m c 0 t := rfl
theorem after0_1 (c : Dev nD) (t : Fin (cfgA m).N) : (dats m 0 c).after 1 t = iblk m c 1 t := rfl
theorem after0_2 (c : Dev nD) (t : Fin (cfgA m).N) : (dats m 0 c).after 2 t = iblk m c 2 t := rfl
theorem after0_3 (c : Dev nD) (t : Fin (cfgA m).N) : (dats m 0 c).after 3 t = iblk m c 3 t := rfl

/-- The table of counts is the first argument as launched. -/
theorem counts_eq (c : Dev nD) : V m 0 main_arg0 = m ((c : Thread nD τ).loc main_arg0) := by
  obtain rfl : c = 0 := Subsingleton.elim _ _
  exact V_main_arg0 m 0

/-- Each input's staging buffer holds its block when the body runs. -/
theorem before0_0 (c : Dev nD) (t : Fin (cfgA m).N) (d) : (dats m 0 c).before 0 t d = iblk m c 0 t :=
  before0_0_of m (dats m 0 c) (A_eq m c 0) (after0_0 m c) t d
theorem before0_1 (c : Dev nD) (t : Fin (cfgA m).N) (d) : (dats m 0 c).before 1 t d = iblk m c 1 t :=
  before0_1_of m (dats m 0 c) (A_eq m c 1) (after0_1 m c) t d
theorem before0_2 (c : Dev nD) (t : Fin (cfgA m).N) (d) : (dats m 0 c).before 2 t d = iblk m c 2 t :=
  before0_2_of m (dats m 0 c) (A_eq m c 2) (after0_2 m c) t d
theorem before0_3 (c : Dev nD) (t : Fin (cfgA m).N) (d) : (dats m 0 c).before 3 t d = iblk m c 3 t :=
  before0_3_of m (dats m 0 c) (A_eq m c 3) (after0_3 m c) t d

/-- The scratch as the class's invariant holds it is the body's memref at some contents. -/
theorem scratch_eq (c : Dev nD) : (Pipeline.scopedRest (Ix := Unit) (Name := ℕ) (U := UR sig nD τ) (Lvl := ℕ) (Val := Elt F) spec0 c : sProp 𝕄G)
    = iprop(∃ f : Buf (Elt F) ((c : Thread nD τ).loc cc0_scratch0), (c : Thread nD τ).loc cc0_scratch0 ↦[(Memref.whole cc0_scratch0).view.set]{fullShare} f) := by
  have h : ((Memref.whole cc0_scratch0).view.set : Finset (Idx ((c : Thread nD τ).loc cc0_scratch0))) = Finset.univ := View.set_whole _
  rw [scopedRest0_eq, h]

def bodyPre (c : Dev nD) (t : Fin (cfgA m).N) : sProp 𝕄G :=
  iprop((dats m 0 c).Φ t.castSucc ∗ (dats m 0 c).owesAt () t.castSucc
    ∗ (∃ d, owns (c : Thread nD τ) (st0_0 m t) fullShare ((dats m 0 c).before 0 t d))
    ∗ (∃ d, owns (c : Thread nD τ) (st0_1 m t) fullShare ((dats m 0 c).before 1 t d))
    ∗ (∃ d, owns (c : Thread nD τ) (st0_2 m t) fullShare ((dats m 0 c).before 2 t d))
    ∗ (∃ d, owns (c : Thread nD τ) (st0_3 m t) fullShare ((dats m 0 c).before 3 t d))
    ∗ (∃ X, owns (c : Thread nD τ) (st0_4 m t) fullShare X))

def bodyPost (c : Dev nD) (t : Fin (cfgA m).N) : sProp 𝕄G :=
  iprop((dats m 0 c).Φ t.succ ∗ (dats m 0 c).owesAt () t.succ
    ∗ owns (c : Thread nD τ) (st0_0 m t) fullShare ((dats m 0 c).after 0 t)
    ∗ owns (c : Thread nD τ) (st0_1 m t) fullShare ((dats m 0 c).after 1 t)
    ∗ owns (c : Thread nD τ) (st0_2 m t) fullShare ((dats m 0 c).after 2 t)
    ∗ owns (c : Thread nD τ) (st0_3 m t) fullShare ((dats m 0 c).after 3 t)
    ∗ (∃ X, owns (c : Thread nD τ) (st0_4 m t) fullShare X))

theorem sound_body (c : Dev nD) (t : Fin (cfgA m).N) (hN : ∀ j, Cert.KernelIdeal.Raster.Count (V m 0 main_arg0 j)) :
    bodyPre m c t ⊢ wp frame (wpE (defs₀ (F := F)) 𝒱₀ (c : Thread nD τ) none) Set.univ (bodyAt0 m t) (fun _ => bodyPost m c t) := by
  unfold bodyPre bodyPost bodyAt0
  simp only [before0_0, before0_1, before0_2, before0_3]
  rw [show (dats m 0 c).owesAt () t.succ = (dats m 0 c).owesAt () t.castSucc from rfl,
    show (dats m 0 c).Φ t.succ = iprop(Pipeline.ΦA spec0 c ∗ Pipeline.ΦT pre0 (adm m 0).1 c) from rfl, show (dats m 0 c).Φ t.castSucc = iprop(Pipeline.ΦA spec0 c ∗ Pipeline.ΦT pre0 (adm m 0).1 c) from rfl,
    after0_0, after0_1, after0_2, after0_3]
  unfold Pipeline.ΦA
  rw [scratch_eq, tables_eq]
  iintro ⟨⟨⟨⟨%f7, Hs⟩, Hr⟩, Ht⟩, Ho, ⟨%d0, H0⟩, ⟨%d1, H1⟩, ⟨%d2, H2⟩, ⟨%d3, H3⟩, H4⟩
  iapply (sound_kernel (F := F) c (grid0.coords t) _ _ _ _ _ _ _ _ _ _ _ _ _ _ (V m 0 main_arg0) hN (iblk m c 0 t) (iblk m c 1 t) (iblk m c 2 t) (iblk m c 3 t) _)
  isplitl [Ht]
  · unfold owns; iexists (V m 0 main_arg0); isplitr; · ipureintro; rfl
    iexact Ht
  isplitl [H0]; · iexact H0
  isplitl [H1]; · iexact H1
  isplitl [H2]; · iexact H2
  isplitl [H3]; · iexact H3
  isplitl [H4]; · iexact H4
  isplitl [Hs]
  · unfold owns; iexists f7, f7; isplitr; · ipureintro; rfl
    iexact Hs
  iintro ⟨Ht, H0, H1, H2, H3, H4, ⟨%d7, Hs⟩⟩
  unfold owns
  icases Ht with ⟨%f1, %e1, Ht⟩
  have e1' : f1 = V m 0 main_arg0 := e1
  subst e1'
  icases Hs with ⟨%f7', -, Hs⟩
  isplitl [Ht Hs Hr]
  · isplitl [Hs Hr]
    · isplitl [Hs]; · iexists f7'; iexact Hs
      iexact Hr
    iexact Ht
  isplitl [Ho]; · iexact Ho
  isplitl [H0]; · iexact H0
  isplitl [H1]; · iexact H1
  isplitl [H2]; · iexact H2
  isplitl [H3]; · iexact H3
  iexact H4

theorem body_obligation (c : Dev nD) (hN : ∀ j, Cert.KernelIdeal.Raster.Count (V m 0 main_arg0 j)) :
    BodyObligationLoose (dats (F := F) m 0 c) (defs₀ (F := F)) 𝒱₀ () Set.univ forget := fun t => by
  rw [bigSep_W0, bigSep_W0, defs₀_row]
  exact triple_restated (sound_body m c t hN) rfl .rfl fun _ => .rfl

set_option backward.isDefEq.respectTransparency.types false in
/-- Every execution ends, with every input array unchanged and every semaphore at zero. -/
theorem run_safe (hN : ∀ j, Cert.KernelIdeal.Raster.Count (V (F := F) m 0 main_arg0 j)) : θ_run defs (onTc (τ := τ) (main (F := F))) (s₀ m ρ)
    (fun r => Pipeline.RDat.FramePost (cfgA m) (fun c => (dats m 0 c).toRForget forget) (V m) r ∧ r.2.sem = fun _ => 0) :=
  Pipeline.θ_run_frameP_forget (Q' := _) pcfgs (adm m) (dats m) (0 : Fin 1) launch0 defs₀ 𝒱₀ forget m ρ main
    (hbody := fun c => body_obligation m c hN) (hshare := fun c => (dats m 0 c).share_full fun _ => rfl)
    (howed := fun _ _ => rfl) (V := V m) (hmain := hmain m) (hA := A_eq m) (hpf := table_at m) (hΦ := fun _ _ => rfl)

end Cert.Kernel.Raster

end
-- ==== Proof.RefRun.lean ====
/- What the reference computes, read at an index. -/
module

public import proofs.«01_k».proof.Proof.Gen.ReferenceIdeal.Run
public import proofs.«01_k».proof.Proof.Gen.ReferenceIdeal.Read

@[expose] public section
end
-- ==== Proof.Frames.lean ====
/- The three frames: the two kernel programs, under the counts' range, and the reference, under anything. -/
module

public import proofs.«01_k».proof.Defs
public import proofs.«01_k».proof.Proof.KFrame
public import proofs.«01_k».proof.Proof.RefRun
public import proofs.«01_k».proof.Proof.Gen.Pre_in_range
public import Idealize.ShloMosaic.Lib.Pipeline.Quiescent
public import Idealize.ShloMosaic.Lib.Pipeline.ValueKit

@[expose] public section

set_option maxRecDepth 16384
set_option maxHeartbeats 4000000

noncomputable section

namespace Cert.Proof

open Idealize.ShloMosaic Idealize.ShloMosaic.TcCoe Idealize.ShloMosaic.Tactic
open Cert.KernelIdeal.Raster (Count)

/-- A word the precondition allows is a count: it is between one and eighteen. -/
theorem count_of_range (v : BitVec 32) (h1 : (1#32).sle v = true) (h2 : v.sle 18#32 = true) : Count v := by
  rw [BitVec.sle_iff_toInt_le] at h1 h2
  have e1 : (1#32 : BitVec 32).toInt = 1 := by decide
  have e2 : (18#32 : BitVec 32).toInt = 18 := by decide
  rw [e1] at h1; rw [e2] at h2
  have hm := BitVec.toInt_eq_toNat_bmod v
  have hv : (v.toNat : ℤ) = v.toInt := by
    have hlt := v.isLt
    rw [BitVec.toInt_eq_toNat_cond] at h1 h2 ⊢
    split at h1 <;> omega
  refine ⟨⟨v.toNat - 1, by omega⟩, ?_⟩
  apply BitVec.eq_of_toNat_eq
  have hlt := v.isLt
  rw [BitVec.toNat_ofNat]
  simp only
  omega

/-- The precondition, read at a count. -/
theorem count_of_pre {F : FTy → Type} [FloatOps F] [Cert.Pre_in_range.Facts] {N : IVec Cert.Pre_in_range.S1800 32} {B L C}
    (h : Cert.Pre_in_range.fn (F := F) N B L C = fun _ => 1#1) (j : Cert.Pre_in_range.S1800.Idx) : Count (N j) := by
  have hj : (BitVec.ofBool ((1#32).sle (N j)) &&& BitVec.ofBool ((N j).sle 18#32) : BitVec 1) = 1#1 := congrFun h j
  have key : ∀ a b : Bool, (BitVec.ofBool a &&& BitVec.ofBool b : BitVec 1) = 1#1 → a = true ∧ b = true := by decide
  obtain ⟨h1, h2⟩ := key _ _ hj
  exact count_of_range _ h1 h2

namespace K
open Cert.Kernel Cert.Kernel.Gen Cert.Kernel.Raster

/-- The table of counts is no window's array. -/
theorem rest_arg0 : main_arg0 ∈ Pipeline.restRefs sig spec0 := Pipeline.mem_restRefs_of main_arg0 rfl (by decide)

theorem frame : Cert.quiescent_Kernel := fun m g hm =>
  (θ_run _ _ _).mono (fun _ h => ⟨fun c =>
      ⟨((h.1 c).2 main_arg0 rest_arg0).trans (V_main_arg0 m c),
       (h.1.arr_in c 0 rfl).trans ((A_eq m c 0).trans (V_main_arg1 m c)),
       (h.1.arr_in c 1 rfl).trans ((A_eq m c 1).trans (V_main_arg2 m c)),
       (h.1.arr_in c 2 rfl).trans ((A_eq m c 2).trans (V_main_arg3 m c))⟩, h.2⟩)
    (run_safe m g fun j => by rw [counts_eq m 0]; exact count_of_pre (hm 0) j)
end K

namespace KI
open Cert.KernelIdeal Cert.KernelIdeal.Gen Cert.KernelIdeal.Raster

/-- The table of counts is no window's array. -/
theorem rest_arg0 : main_arg0 ∈ Pipeline.restRefs sig spec0 := Pipeline.mem_restRefs_of main_arg0 rfl (by decide)

theorem frame : Cert.quiescent_KernelIdeal := fun m g hm =>
  (θ_run _ _ _).mono (fun _ h => ⟨fun c =>
      ⟨((h.1 c).2 main_arg0 rest_arg0).trans (V_main_arg0 m c),
       ((h.1 c).1 0).trans (((dats m 0 c).arrAt_in 0 rfl _).trans ((A_eq m c 0).trans (V_main_arg1 m c))),
       ((h.1 c).1 1).trans (((dats m 0 c).arrAt_in 1 rfl _).trans ((A_eq m c 1).trans (V_main_arg2 m c))),
       ((h.1 c).1 2).trans (((dats m 0 c).arrAt_in 2 rfl _).trans ((A_eq m c 2).trans (V_main_arg3 m c)))⟩, h.2⟩)
    (run_blocks m g fun j => by rw [counts_eq m 0]; exact count_of_pre (hm 0) j)
end KI

namespace RI

theorem frame : Cert.quiescent_ReferenceIdeal := fun m g _ =>
  (θ_run _ _ _).mono (fun r h => ⟨fun c => (h c).2, sem_eq_zero_of_no_sems (by decide) r.2⟩) (Cert.ReferenceIdeal.Value.run m g)

theorem frame_pre : Cert.quiescent_ReferenceIdeal_pre_in_range := fun m g _ => frame m g trivial
end RI

end Cert.Proof

end
-- ==== Proof.Weights.lean ====
/- Compositing at one pixel, over the extended reals and without any program: the clamped opacity, what passes the
   slots in front, the weights, and the exponential of a sum of logs. -/
module

public import Idealize.ShloMosaic.PureOps.Ideal.Laws
public import Idealize.ShloMosaic.Lib.IdealHost

@[expose] public section

noncomputable section

namespace Cert.Splat

open Idealize.ShloMosaic
open Finset (range)
open scoped BigOperators

/-! ## The constants -/

/-- The cap on the opacity: the f32 nearest 0.99. -/
def cap : ℝ := 16609444 / 2 ^ 24

/-- The f32 nearest `log 2`. -/
def ln2 : ℝ := 11629080 / 2 ^ 24

theorem ofBits_cap : Ideal.ofBits .f32 0x3F7D70A4#32 = (cap : EReal) := by
  simp [Ideal.ofBits, Ideal.ieee, cap]; norm_cast
theorem ofBits_ln2 : Ideal.ofBits .f32 0x3F317218#32 = (ln2 : EReal) := by
  simp [Ideal.ofBits, Ideal.ieee, ln2]; norm_cast
theorem ofBits_quarter : Ideal.ofBits .f32 0x3E800000#32 = ((1 / 4 : ℝ) : EReal) := by
  simp [Ideal.ofBits, Ideal.ieee]; norm_cast; norm_num
theorem ofBits_half : Ideal.ofBits .f32 0x3F000000#32 = ((1 / 2 : ℝ) : EReal) := by
  simp [Ideal.ofBits, Ideal.ieee]; norm_cast; norm_num
theorem ofBits_two : Ideal.ofBits .f32 0x40000000#32 = ((2 : ℝ) : EReal) := by
  simp [Ideal.ofBits, Ideal.ieee]; norm_cast; norm_num

theorem one_f32 : Ideal.ofBits .f32 0x3F800000#32 = 1 := Ideal.ofBits_one_f32

theorem cap_pos : 0 < cap := by unfold cap; norm_num
theorem cap_lt_one : cap < 1 := by unfold cap; norm_num
theorem ln2_pos : 0 < ln2 := by unfold ln2; norm_num

/-! ## The opacity -/

/-- The opacity of an exponent `x`: `min(2^x, cap)`, a real number whatever `x` is. -/
def opa (x : EReal) : ℝ := (min (Ideal.exp2 x) (cap : EReal)).toReal

theorem exp2_nonneg (x : EReal) : 0 ≤ Ideal.exp2 x := by
  induction x with
  | bot => exact le_rfl
  | top => exact le_top
  | coe r => exact EReal.coe_nonneg.mpr (Real.rpow_nonneg (by norm_num) r)

theorem min_exp2 (x : EReal) : min (Ideal.exp2 x) (cap : EReal) = (opa x : EReal) := by
  refine (EReal.coe_toReal ?_ ?_).symm
  · exact ne_of_lt (lt_of_le_of_lt (min_le_right _ _) (EReal.coe_lt_top _))
  · exact ne_of_gt (lt_of_lt_of_le EReal.bot_lt_zero (le_min (exp2_nonneg x) (EReal.coe_nonneg.mpr cap_pos.le)))

theorem opa_nonneg (x : EReal) : 0 ≤ opa x := by
  rw [← EReal.coe_nonneg, ← min_exp2]
  exact le_min (exp2_nonneg x) (EReal.coe_nonneg.mpr cap_pos.le)

theorem opa_lt_one (x : EReal) : opa x < 1 := by
  refine lt_of_le_of_lt ?_ cap_lt_one
  rw [← EReal.coe_le_coe_iff, ← min_exp2]
  exact min_le_right _ _

/-- Two to a power, written either way. -/
theorem pow_two (x : EReal) : Ideal.pow ((2 : ℝ) : EReal) x = Ideal.exp2 x := by
  induction x with
  | bot =>
    show (if (2 : ℝ) < 0 then (⊥ : EReal) else if (1 : ℝ) < 2 then 0 else if (2 : ℝ) = 1 then 1 else ⊤) = 0
    norm_num
  | top =>
    show (if (2 : ℝ) < 0 then (⊥ : EReal) else if (1 : ℝ) < 2 then ⊤ else if (2 : ℝ) = 1 then 1 else 0) = ⊤
    norm_num
  | coe r => rfl

/-! ## What passes, and the weights -/

/-- What passes the first `n` slots of opacities `a`. -/
def pass (a : ℕ → ℝ) (n : ℕ) : ℝ := ∏ s ∈ range n, (1 - a s)

/-- Slot `s`'s weight: its opacity times what passes the slots in front. -/
def weight (a : ℕ → ℝ) (s : ℕ) : ℝ := a s * pass a s

variable {a : ℕ → ℝ}

theorem pass_zero : pass a 0 = 1 := rfl
theorem pass_succ (n : ℕ) : pass a (n + 1) = pass a n - a n * pass a n := by
  unfold pass; rw [Finset.prod_range_succ]; ring
theorem pass_add (m n : ℕ) : pass a (m + n) = pass a m * pass (fun s => a (m + s)) n := by
  unfold pass; rw [Finset.prod_range_add]
theorem weight_add (m s : ℕ) : weight a (m + s) = pass a m * weight (fun s => a (m + s)) s := by
  unfold weight; rw [pass_add]; ring
theorem pass_pos (h : ∀ s, a s < 1) (n : ℕ) : 0 < pass a n := Finset.prod_pos fun s _ => sub_pos.mpr (h s)
theorem pass_congr {b : ℕ → ℝ} (n : ℕ) (h : ∀ s < n, a s = b s) : pass a n = pass b n :=
  Finset.prod_congr rfl fun s hs => by rw [h s (Finset.mem_range.mp hs)]
theorem sum_weight (n : ℕ) : ∑ s ∈ range n, weight a s = 1 - pass a n := by
  induction n with
  | zero => simp [pass]
  | succ n ih => rw [Finset.sum_range_succ, ih, pass_succ, weight]; ring
theorem log_pass (h : ∀ s, a s < 1) (n : ℕ) : Real.log (pass a n) = ∑ s ∈ range n, Real.log (1 - a s) :=
  Real.log_prod fun s _ => (sub_pos.mpr (h s)).ne'

/-! ## Over the extended reals -/

theorem log_coe_pos {r : ℝ} (h : 0 < r) : Ideal.log (r : EReal) = (Real.log r : EReal) := if_neg (not_le.mpr h)

theorem log1p_neg {r : ℝ} (h : r < 1) : Ideal.log1p (-(r : EReal)) = (Real.log (1 - r) : EReal) := by
  rw [← log_coe_pos (sub_pos.mpr h)]
  unfold Ideal.log1p
  congr 1

theorem coe_sum {ι : Type*} (s : Finset ι) (f : ι → ℝ) : ∑ i ∈ s, (f i : EReal) = ((∑ i ∈ s, f i : ℝ) : EReal) := by
  classical
  induction s using Finset.induction_on with
  | empty => simp
  | insert i s hi ih => rw [Finset.sum_insert hi, Finset.sum_insert hi, ih, EReal.coe_add]

/-- A real factor that is not negative passes through a sum, whatever is summed. -/
theorem mul_sum {ι : Type*} (s : Finset ι) {t : ℝ} (ht : 0 ≤ t) (f : ι → EReal) : (t : EReal) * ∑ i ∈ s, f i = ∑ i ∈ s, (t : EReal) * f i := by
  classical
  induction s using Finset.induction_on with
  | empty => simp
  | insert i s hi ih =>
    rw [Finset.sum_insert hi, Finset.sum_insert hi, EReal.left_distrib_of_nonneg_of_ne_top (EReal.coe_nonneg.mpr ht) (EReal.coe_ne_top t), ih]

/-- A chunk of `n` slots on top of the first `m`: its own weighted colours, seen through what passes the first `m`. -/
theorem sum_chunk {b : ℕ → ℝ} {c d : ℕ → EReal} (m n : ℕ) (hb : ∀ s < n, a (m + s) = b s) (hp : 0 ≤ pass a m) (hc : ∀ s < n, c (m + s) = d s) :
    ∑ s ∈ range m, (weight a s : EReal) * c s + (pass a m : EReal) * ∑ s ∈ range n, (weight b s : EReal) * d s
      = ∑ s ∈ range (m + n), (weight a s : EReal) * c s := by
  rw [mul_sum _ hp, Finset.sum_range_add]
  refine congrArg _ (Finset.sum_congr rfl fun s hs => ?_)
  have hs' := Finset.mem_range.mp hs
  rw [hc s hs', weight_add, EReal.coe_mul, mul_assoc]
  unfold weight
  dsimp only
  rw [← hb s hs', pass_congr s fun q hq => (hb q (hq.trans hs')).symm]

theorem div_ln2 (r : ℝ) : Ideal.div (r : EReal) (ln2 : EReal) = ((r / ln2 : ℝ) : EReal) := by
  unfold Ideal.div
  rw [if_neg (EReal.coe_ne_zero.mpr ln2_pos.ne'), ← EReal.coe_inv, ← EReal.coe_mul, div_eq_mul_inv]

/-- The log of the transmittance `t`, however the kernel takes it: by `log1p` of the summed weight `1 - t` where little
    is covered, by the summed base-two logs elsewhere. -/
theorem log_either {t : ℝ} (h : 0 < t) :
    (if ((1 - t : ℝ) : EReal) < ((1 / 4 : ℝ) : EReal) then Ideal.log1p (0 - min ((1 - t : ℝ) : EReal) ((1 / 2 : ℝ) : EReal))
      else (ln2 : EReal) * ((Real.log t / ln2 : ℝ) : EReal)) = (Real.log t : EReal) := by
  split
  next h1 =>
    rw [EReal.coe_lt_coe_iff] at h1
    rw [min_eq_left (EReal.coe_le_coe_iff.mpr (by linarith)), zero_sub, log1p_neg (by linarith), sub_sub_cancel]
  next =>
    rw [← EReal.coe_mul, mul_div_cancel₀ _ ln2_pos.ne']

end Cert.Splat

end
-- ==== Proof.KIValue.lean ====
/- The kernel's vectors read at one pixel, over the extended reals: the chunks of a group together composite its slots
   front to back, slot `S` being slot `S % 16` of chunk `S / 16`. -/
module

public import proofs.«01_k».proof.Proof.KIChunk
public import proofs.«01_k».proof.Proof.Weights

@[expose] public section

set_option maxRecDepth 16384

noncomputable section

namespace Cert.KernelIdeal.Raster

open Cert.KernelIdeal Cert.KernelIdeal.Gen Idealize.ShloMosaic Idealize.ShloMosaic.TcCoe
open Cert.Splat
open Finset (range)
open scoped BigOperators

/-! ## One chunk -/

section Chunk
variable (E : FVec Ideal S128x256 .f32) (cols : FVec Ideal S8x128 .f32) (y : S8x256.Idx)

/-- The opacity of slot `n` of the chunk at pixel `y`. -/
def opaV (n : ℕ) : ℝ := opa (rowV (F := Ideal) E n y)

theorem alphaV_apply (x : Tile Ideal) : alphaV (F := Ideal) x y = (opa (x y) : EReal) := by
  rw [← min_exp2, ← ofBits_cap]; rfl

theorem tV_apply (n : ℕ) : tV (F := Ideal) E n y = (pass (opaV E y) n : EReal) := by
  induction n with
  | zero =>
    show Ideal.ofBits .f32 0x3F800000#32 = _
    rw [Cert.Splat.one_f32, pass_zero, EReal.coe_one]
  | succ n ih =>
    show tV (F := Ideal) E n y - alphaV (F := Ideal) (rowV (F := Ideal) E n) y * tV (F := Ideal) E n y = _
    rw [ih, alphaV_apply, pass_succ, ← EReal.coe_mul, ← EReal.coe_sub]; rfl

theorem aV_apply (n : ℕ) : aV (F := Ideal) E n y = (weight (opaV E y) n : EReal) := by
  show alphaV (F := Ideal) (rowV (F := Ideal) E n) y * tV (F := Ideal) E n y = _
  rw [alphaV_apply, tV_apply, ← EReal.coe_mul]; rfl

theorem sumV_apply (o n : ℕ) : sumV (F := Ideal) E cols o n y
    = ∑ s ∈ range n, (weight (opaV E y) s : EReal) * laneV (F := Ideal) cols (o + s) y := by
  induction n with
  | zero =>
    show Ideal.ofBits .f32 0x00000000#32 = _
    rw [Ideal.ofBits_zero_f32, Finset.range_zero, Finset.sum_empty]
  | succ n ih =>
    show sumV (F := Ideal) E cols o n y + aV (F := Ideal) E n y * laneV (F := Ideal) cols (o + n) y = _
    rw [ih, aV_apply, Finset.sum_range_succ]

theorem swV_apply (n : ℕ) : swV (F := Ideal) E n y = ((1 - pass (opaV E y) n : ℝ) : EReal) := by
  rw [← sum_weight]
  induction n with
  | zero =>
    show Ideal.ofBits .f32 0x00000000#32 = _
    rw [Ideal.ofBits_zero_f32, Finset.range_zero, Finset.sum_empty, EReal.coe_zero]
  | succ n ih =>
    show swV (F := Ideal) E n y + aV (F := Ideal) E n y = _
    rw [ih, aV_apply, Finset.sum_range_succ, EReal.coe_add]

theorem opaV_lt (n : ℕ) : opaV E y n < 1 := opa_lt_one _

end Chunk

/-! ## What is stored -/

section Stored
variable (t x : Tile Ideal) (b : EReal) (r : Fin 8) (l : Fin 256)

theorem pay164_at : k0_pay164 (F := Ideal) t x b (ix4 0 0 r l) = x (ix2 r l) + t (ix2 r l) * b := by pointwise [k0_pay164]
theorem pay165_at : k0_pay165 (F := Ideal) t x b (ix4 0 0 r l) = x (ix2 r l) + t (ix2 r l) * b := by pointwise [k0_pay165]
theorem pay166_at : k0_pay2 (F := Ideal) (k0_pay166 (F := Ideal) t x b) (ix4 0 0 r l) = x (ix2 r l) + t (ix2 r l) * b := by
  pointwise [k0_pay2, k0_pay166]

/-- The log row: by `log1p` where the summed weight is below a quarter, by the summed logs elsewhere. -/
theorem pay3_at : k0_pay3 (F := Ideal) t x (ix4 0 0 r l)
    = if t (ix2 r l) < ((1 / 4 : ℝ) : EReal) then Ideal.log1p (0 - min (t (ix2 r l)) ((1 / 2 : ℝ) : EReal))
      else (ln2 : EReal) * x (ix2 r l) := by
  rw [← ofBits_quarter, ← ofBits_half, ← ofBits_ln2]
  pointwise [k0_pay3]

end Stored

/-! ## The chunks of a group -/

section Group
variable (W : Vec Ideal S25x288x128 .i32) (C : Vec Ideal S25x144x128 .f32) (M : Vec Ideal S128x256 .bf16) (g : ℕ) (y : S8x256.Idx)

/-- Slot `S`'s exponent at pixel `y`. -/
def slotX (S : ℕ) : EReal := rowV (F := Ideal) (expV (F := Ideal) W M g (S / 16)) (S % 16) y

/-- Slot `S`'s opacity at pixel `y`. -/
def slotA (S : ℕ) : ℝ := opa (slotX W M g y S)

/-- Slot `S`'s colour, the channel's lanes from `o`. -/
def slotC (o S : ℕ) : EReal := laneV (F := Ideal) (colV (F := Ideal) C g (S / 16)) (o + S % 16) y

theorem slotA_chunk (k s : ℕ) (h : s < 16) : slotA W M g y (16 * k + s) = opaV (expV (F := Ideal) W M g k) y s := by
  unfold slotA slotX opaV
  rw [show (16 * k + s) / 16 = k by omega, show (16 * k + s) % 16 = s by omega]

theorem slotC_chunk (o k s : ℕ) (h : s < 16) : slotC C g y o (16 * k + s) = laneV (F := Ideal) (colV (F := Ideal) C g k) (o + s) y := by
  unfold slotC
  rw [show (16 * k + s) / 16 = k by omega, show (16 * k + s) % 16 = s by omega]

theorem slotA_lt (S : ℕ) : slotA W M g y S < 1 := opa_lt_one _

/-- What passes the first `k + 1` chunks. -/
theorem pass_chunk (k : ℕ) : pass (slotA W M g y) (16 * (k + 1))
    = pass (slotA W M g y) (16 * k) * pass (opaV (expV (F := Ideal) W M g k) y) 16 := by
  rw [Nat.mul_succ, pass_add]
  exact congrArg _ (pass_congr 16 fun s hs => slotA_chunk W M g y k s hs)

/-- A colour channel summed over the first `n` slots. -/
def colourSum (o n : ℕ) : EReal := ∑ S ∈ range n, (weight (slotA W M g y) S : EReal) * slotC C g y o S

theorem colourSum_chunk (o k : ℕ) : colourSum W C M g y o (16 * k)
      + (pass (slotA W M g y) (16 * k) : EReal) * sumV (F := Ideal) (expV (F := Ideal) W M g k) (colV (F := Ideal) C g k) o 16 y
    = colourSum W C M g y o (16 * (k + 1)) := by
  rw [sumV_apply, Nat.mul_succ]
  exact sum_chunk (16 * k) 16 (fun q hq => slotA_chunk W M g y k q hq) (pass_pos (slotA_lt W M g y) _).le (fun q hq => slotC_chunk C g y o k q hq)

/-- What is carried after `k` chunks, at pixel `y`. -/
theorem accV_apply (k : ℕ) :
    (accV (F := Ideal) W C M g k).1 y = (pass (slotA W M g y) (16 * k) : EReal)
    ∧ (accV (F := Ideal) W C M g k).2.1 y = colourSum W C M g y 0 (16 * k)
    ∧ (accV (F := Ideal) W C M g k).2.2.1 y = colourSum W C M g y 16 (16 * k)
    ∧ (accV (F := Ideal) W C M g k).2.2.2.1 y = colourSum W C M g y 32 (16 * k)
    ∧ (accV (F := Ideal) W C M g k).2.2.2.2.1 y = ((1 - pass (slotA W M g y) (16 * k) : ℝ) : EReal)
    ∧ (accV (F := Ideal) W C M g k).2.2.2.2.2 y = ((Real.log (pass (slotA W M g y) (16 * k)) / ln2 : ℝ) : EReal) := by
  induction k with
  | zero =>
    have z : Ideal.ofBits .f32 0x00000000#32 = 0 := Ideal.ofBits_zero_f32
    refine ⟨?_, ?_, ?_, ?_, ?_, ?_⟩
    · show Ideal.ofBits .f32 0x3F800000#32 = _
      rw [Cert.Splat.one_f32, Nat.mul_zero, pass_zero, EReal.coe_one]
    · show Ideal.ofBits .f32 0x00000000#32 = _
      rw [z]; rfl
    · show Ideal.ofBits .f32 0x00000000#32 = _
      rw [z]; rfl
    · show Ideal.ofBits .f32 0x00000000#32 = _
      rw [z]; rfl
    · show Ideal.ofBits .f32 0x00000000#32 = _
      rw [z, Nat.mul_zero, pass_zero, sub_self, EReal.coe_zero]
    · show Ideal.ofBits .f32 0x00000000#32 = _
      rw [z, Nat.mul_zero, pass_zero, Real.log_one, zero_div, EReal.coe_zero]
  | succ k ih =>
    obtain ⟨h1, h2, h3, h4, h5, h6⟩ := ih
    have hp := pass_pos (slotA_lt W M g y) (16 * k)
    have hq := pass_pos (opaV_lt (expV (F := Ideal) W M g k) y) 16
    refine ⟨?_, ?_, ?_, ?_, ?_, ?_⟩
    · show (accV (F := Ideal) W C M g k).1 y * tV (F := Ideal) (expV (F := Ideal) W M g k) 16 y = _
      rw [h1, tV_apply, pass_chunk, EReal.coe_mul]
    · show (accV (F := Ideal) W C M g k).2.1 y + (accV (F := Ideal) W C M g k).1 y * sumV (F := Ideal) _ _ 0 16 y = _
      rw [h1, h2, colourSum_chunk]
    · show (accV (F := Ideal) W C M g k).2.2.1 y + (accV (F := Ideal) W C M g k).1 y * sumV (F := Ideal) _ _ 16 16 y = _
      rw [h1, h3, colourSum_chunk]
    · show (accV (F := Ideal) W C M g k).2.2.2.1 y + (accV (F := Ideal) W C M g k).1 y * sumV (F := Ideal) _ _ 32 16 y = _
      rw [h1, h4, colourSum_chunk]
    · show (accV (F := Ideal) W C M g k).2.2.2.2.1 y + (accV (F := Ideal) W C M g k).1 y * swV (F := Ideal) _ 16 y = _
      rw [h1, h5, swV_apply, pass_chunk, ← EReal.coe_mul, ← EReal.coe_add]
      congr 1; ring
    · show (accV (F := Ideal) W C M g k).2.2.2.2.2 y
        + Ideal.div (Ideal.log (tV (F := Ideal) (expV (F := Ideal) W M g k) 16 y)) (Ideal.ofBits .f32 0x3F317218#32) = _
      rw [h6, tV_apply, log_coe_pos hq, ofBits_ln2, div_ln2, ← EReal.coe_add, pass_chunk, Real.log_mul hp.ne' hq.ne', add_div]

/-- The group's four stored rows at a pixel: three channels over the background, and the log of the transmittance. -/
theorem outV_apply (b : Fin 3 → EReal) (n : ℕ) (r : Fin 8) (l : Fin 256) (ch : Fin 4) :
    outV (F := Ideal) W C M b g n ch (ix4 0 0 r l)
      = if h : ch.val < 3 then colourSum W C M g (ix2 r l) (16 * ch.val) (16 * n)
          + (pass (slotA W M g (ix2 r l)) (16 * n) : EReal) * b ⟨ch.val, h⟩
        else (Real.log (pass (slotA W M g (ix2 r l)) (16 * n)) : EReal) := by
  obtain ⟨h1, h2, h3, h4, h5, h6⟩ := accV_apply W C M g (ix2 r l) n
  unfold outV
  generalize accV (F := Ideal) W C M g n = s at h1 h2 h3 h4 h5 h6 ⊢
  fin_cases ch
  · refine Eq.trans ?_ (dif_pos (by decide)).symm
    show k0_pay164 (F := Ideal) s.1 s.2.1 (b 0) (ix4 0 0 r l) = _
    rw [pay164_at, h1, h2]; rfl
  · refine Eq.trans ?_ (dif_pos (by decide)).symm
    show k0_pay165 (F := Ideal) s.1 s.2.2.1 (b 1) (ix4 0 0 r l) = _
    rw [pay165_at, h1, h3]; rfl
  · refine Eq.trans ?_ (dif_pos (by decide)).symm
    show k0_pay2 (F := Ideal) (k0_pay166 (F := Ideal) s.1 s.2.2.2.1 (b 2)) (ix4 0 0 r l) = _
    rw [pay166_at, h1, h4]; rfl
  · refine Eq.trans ?_ (dif_neg (by decide)).symm
    show k0_pay3 (F := Ideal) s.2.2.2.2.1 s.2.2.2.2.2 (ix4 0 0 r l) = _
    rw [pay3_at, h5, h6]
    exact log_either (pass_pos (slotA_lt W M g (ix2 r l)) _)

end Group

end Cert.KernelIdeal.Raster

end
-- ==== Proof.Half.lean ====
/- A bf16 number is the upper half of an f32: the two patterns denote the same number. -/
module

public import Idealize.ShloMosaic.PureOps.Ideal

@[expose] public section

noncomputable section

namespace Cert.Splat

open Idealize.ShloMosaic

theorem extract_sign (b : BitVec 16) : (b ++ 0#16).extractLsb' 31 1 = b.extractLsb' 15 1 := by
  apply BitVec.eq_of_getLsbD_eq
  intro i hi
  have h : ¬ 31 + i < 16 := by omega
  simp only [BitVec.getLsbD_extractLsb', BitVec.getLsbD_append, h, if_false, show 31 + i - 16 = 15 + i by omega]

theorem extract_exponent (b : BitVec 16) : (b ++ 0#16).extractLsb' 23 8 = b.extractLsb' 7 8 := by
  apply BitVec.eq_of_getLsbD_eq
  intro i hi
  have h : ¬ 23 + i < 16 := by omega
  simp only [BitVec.getLsbD_extractLsb', BitVec.getLsbD_append, h, if_false, show 23 + i - 16 = 7 + i by omega]

theorem extract_fraction (b : BitVec 16) : ((b ++ 0#16).extractLsb' 0 23).toNat = (b.extractLsb' 0 7).toNat * 2 ^ 16 := by
  have h : (b ++ 0#16).toNat = b.toNat * 2 ^ 16 := by
    rw [BitVec.toNat_append, Nat.shiftLeft_eq]; simp
  rw [BitVec.extractLsb'_toNat, BitVec.extractLsb'_toNat, h, Nat.shiftRight_zero, Nat.shiftRight_zero]
  omega

/-- A bf16 pattern followed by sixteen zero bits is the f32 pattern of the same number. -/
theorem ofBits_wide (b : BitVec 16) : Ideal.ofBits .f32 (b ++ 0#16 : BitVec 32) = Ideal.ofBits .bf16 b := by
  show Ideal.ieee 8 23 (b ++ 0#16) = Ideal.ieee 8 7 b
  unfold Ideal.ieee
  dsimp only
  rw [show 8 + 23 = 31 from rfl, show 8 + 7 = 15 from rfl, extract_sign, extract_exponent, extract_fraction]
  generalize (b.extractLsb' 0 7).toNat = f
  generalize (b.extractLsb' 7 8).toNat = x
  generalize (b.extractLsb' 15 1 == 1#1) = n
  have hz : ∀ e : ℤ, (2 : ℝ) ^ (e - 7) = 2 ^ 16 * (2 : ℝ) ^ (e - 23) := fun e => by
    rw [show e - 7 = 16 + (e - 23) by ring, zpow_add₀ (by norm_num)]; norm_num
  have h0 : (f * 2 ^ 16 = 0) ↔ (f = 0) := by omega
  simp only [h0]
  have e1 : (2 : ℝ) ^ ((1 : ℤ) - (2 ^ (8 - 1) - 1) - ((7 : ℕ) : ℤ)) = 2 ^ 16 * (2 : ℝ) ^ ((1 : ℤ) - (2 ^ (8 - 1) - 1) - ((23 : ℕ) : ℤ)) := hz _
  have e2 : (2 : ℝ) ^ ((x : ℤ) - (2 ^ (8 - 1) - 1) - ((7 : ℕ) : ℤ)) = 2 ^ 16 * (2 : ℝ) ^ ((x : ℤ) - (2 ^ (8 - 1) - 1) - ((23 : ℕ) : ℤ)) := hz _
  rw [e1, e2]
  generalize (2 : ℝ) ^ ((1 : ℤ) - (2 ^ (8 - 1) - 1) - ((23 : ℕ) : ℤ)) = p
  generalize (2 : ℝ) ^ ((x : ℤ) - (2 ^ (8 - 1) - 1) - ((23 : ℕ) : ℤ)) = q
  generalize (if n = true then (-1 : ℝ) else 1) = s
  have r1 : s * ((f * 2 ^ 16 : ℕ) : ℝ) * p = s * (f : ℝ) * (2 ^ 16 * p) := by push_cast; ring
  have r2 : s * ((2 ^ 23 + f * 2 ^ 16 : ℕ) : ℝ) * q = s * ((2 ^ 7 + f : ℕ) : ℝ) * (2 ^ 16 * q) := by push_cast; ring
  rw [r1, r2]

theorem shiftLeft_eq (x : BitVec 32) : x <<< 16 = x.extractLsb' 0 16 ++ 0#16 := by
  apply BitVec.eq_of_getLsbD_eq
  intro i hi
  simp only [BitVec.getLsbD_shiftLeft, BitVec.getLsbD_append, BitVec.getLsbD_extractLsb']
  by_cases h : i < 16
  · simp [h]
  · have h2 : i - 16 < 16 := by omega
    simp [h, hi, h2]

theorem mask_eq (x : BitVec 32) : x &&& (4294901760#32) = x.extractLsb' 16 16 ++ 0#16 := by
  rw [show (4294901760#32 : BitVec 32) = BitVec.allOnes 16 ++ 0#16 by decide]
  apply BitVec.eq_of_getLsbD_eq
  intro i hi
  simp only [BitVec.getLsbD_and, BitVec.getLsbD_append, BitVec.getLsbD_extractLsb', BitVec.getLsbD_allOnes]
  by_cases h : i < 16
  · simp [h]
  · have h2 : i - 16 < 16 := by omega
    have h3 : 16 + (i - 16) = i := by omega
    simp [h, h2, h3]

/-- The lower half of a word. -/
theorem low_half (x : BitVec 32) : Ideal.ofBits .bf16 (x.extractLsb' 0 16) = Ideal.ofBits .f32 (x <<< 16) := by
  rw [shiftLeft_eq, ofBits_wide]

/-- The upper half of a word. -/
theorem high_half (x : BitVec 32) : Ideal.ofBits .bf16 (x.extractLsb' 16 16) = Ideal.ofBits .f32 (x &&& (4294901760#32)) := by
  rw [mask_eq, ofBits_wide]

/-- The number in one half of a word: the lower half for an even `h`, the upper for an odd one. -/
def halfOf (w : BitVec 32) (h : ℕ) : EReal := Ideal.ofBits .bf16 (w.extractLsb' (16 * (h % 2)) 16)

theorem halfOf_even (w : BitVec 32) (h : ℕ) (e : h % 2 = 0) : halfOf w h = Ideal.ofBits .f32 (w <<< 16) := by
  unfold halfOf
  rw [e]
  exact low_half w

theorem halfOf_odd (w : BitVec 32) (h : ℕ) (e : h % 2 = 1) : halfOf w h = Ideal.ofBits .f32 (w &&& (4294901760#32)) := by
  unfold halfOf
  rw [e]
  exact high_half w

end Cert.Splat

end
-- ==== Proof.KIExponent.lean ====
/- The kernel's exponents and colours read at one pixel: each slot's exponent is the product of 128 unpacked
   coefficients with a column of the monomials. -/
module

public import proofs.«01_k».proof.Proof.KIChunk
public import proofs.«01_k».proof.Proof.KIValue
public import proofs.«01_k».proof.Proof.Half
public import Idealize.ShloMosaic.Lib.BitcastPair

@[expose] public section

set_option maxRecDepth 16384

noncomputable section

namespace Cert.KernelIdeal.Raster

open Cert.KernelIdeal Cert.KernelIdeal.Gen Idealize.ShloMosaic Idealize.ShloMosaic.TcCoe
open Cert.Splat
open Finset (range)
open scoped BigOperators

theorem half_at (w : IVec S16x128 32) (r : Fin 32) (k : Fin 128) :
    (Ideal.ofBits .bf16 (bitcast S32x128 16 w bitcasts_S16x128_w32_S32x128_w16 (ix2 r k)) : EReal)
      = halfOf (w (ix2 ⟨r.val / 2, by omega⟩ k)) r.val := by
  rw [bitcast_32_16]
  unfold halfOf
  congr 2
  refine congrArg w (funext fun a => Fin.ext ?_)
  fin_cases a
  · exact Shape.Bitcasts.srcIdx_row _ _ _ _ _ rfl
  · exact Shape.Bitcasts.srcIdx_other _ _ _ _ _ (by decide)

/-- One of the four stretches of 32 rows: the words rolled `32 * q` lanes to the left, their halves. -/
theorem part_at (w : IVec S16x128 32) (v : Vec Ideal S1x16x128 .i32) (q : ℕ)
    (hw : ∀ (r : Fin 16) (k : Fin 128), w (ix2 r k) = v (ix3 0 r ⟨(k.val + 32 * q) % 128, Nat.mod_lt _ (by decide)⟩))
    (R r : Fin 32) (hR : R.val = r.val) (k : Fin 128) :
    (Ideal.ofBits .bf16 (bitcast S32x128 16 w bitcasts_S16x128_w32_S32x128_w16 (ix2 R k)) : EReal)
      = halfOf (v (ix3 0 ⟨r.val / 2, by omega⟩ ⟨(k.val + 32 * q) % 128, Nat.mod_lt _ (by decide)⟩)) r.val := by
  obtain rfl : R = r := Fin.ext hR
  rw [half_at, hw]

/-- The exponents of a chunk before its rows are stored: a product of the unpacked words with the monomials. -/
theorem pay4_at (v : Vec Ideal S1x16x128 .i32) (m : Vec Ideal S128x256 .bf16) (q : Fin 4) (r : Fin 32) (l : Fin 256) :
    k0_pay4 (F := Ideal) v m (ix2 ⟨q.val * 32 + r.val, by omega⟩ l)
      = ∑ k : Fin 128, halfOf (v (ix3 0 ⟨r.val / 2, by omega⟩ ⟨(k.val + 32 * q.val) % 128, Nat.mod_lt _ (by decide)⟩)) r.val * m (ix2 k l) := by
  pointwise [k0_pay4]
  refine Finset.sum_congr rfl fun k _ => ?_
  refine congrArg (· * m (ix2 k l)) ?_
  have hr := r.isLt
  have hk := k.isLt
  fin_cases q
  · refine (dif_pos (show 0 * 32 + r.val < 32 by omega)).trans ?_
    exact part_at _ v 0 (fun r' k' => by pointwise; exact congrArg v (congrArg (ix3 _ r') (Fin.ext (by show k'.val = (k'.val + 32 * 0) % 128; omega)))) _ r
      (by show 0 * 32 + r.val = r.val; omega) k
  · refine (dif_neg (show ¬ 1 * 32 + r.val < 32 by omega)).trans ((dif_pos (show 1 * 32 + r.val - 32 < 32 by omega)).trans ?_)
    exact part_at _ v 1 (fun r' k' => by pointwise; exact congrArg v (congrArg (ix3 _ r') (Fin.ext (by show (k'.val + 128 - 96) % 128 = (k'.val + 32 * 1) % 128; omega)))) _ r
      (by show 1 * 32 + r.val - 32 = r.val; omega) k
  · refine (dif_neg (show ¬ 2 * 32 + r.val < 32 by omega)).trans ((dif_neg (show ¬ 2 * 32 + r.val - 32 < 32 by omega)).trans
      ((dif_pos (show 2 * 32 + r.val - 32 - 32 < 32 by omega)).trans ?_))
    exact part_at _ v 2 (fun r' k' => by pointwise; exact congrArg v (congrArg (ix3 _ r') (Fin.ext (by show (k'.val + 128 - 64) % 128 = (k'.val + 32 * 2) % 128; omega)))) _ r
      (by show 2 * 32 + r.val - 32 - 32 = r.val; omega) k
  · refine (dif_neg (show ¬ 3 * 32 + r.val < 32 by omega)).trans ((dif_neg (show ¬ 3 * 32 + r.val - 32 < 32 by omega)).trans
      ((dif_neg (show ¬ 3 * 32 + r.val - 32 - 32 < 32 by omega)).trans ?_))
    exact part_at _ v 3 (fun r' k' => by pointwise; exact congrArg v (congrArg (ix3 _ r') (Fin.ext (by show (k'.val + 128 - 32) % 128 = (k'.val + 32 * 3) % 128; omega)))) _ r
      (by show 3 * 32 + r.val - 32 - 32 - 32 = r.val; omega) k

theorem pay4_row (v : Vec Ideal S1x16x128 .i32) (m : Vec Ideal S128x256 .bf16) (q : Fin 4) (r : Fin 32) (R : Fin 128)
    (hR : R.val = q.val * 32 + r.val) (l : Fin 256) : k0_pay4 (F := Ideal) v m (ix2 R l)
      = ∑ k : Fin 128, halfOf (v (ix3 0 ⟨r.val / 2, by omega⟩ ⟨(k.val + 32 * q.val) % 128, Nat.mod_lt _ (by decide)⟩)) r.val * m (ix2 k l) := by
  have e : R = ⟨q.val * 32 + r.val, by omega⟩ := Fin.ext hR
  rw [e]
  exact pay4_at v m q r l

theorem slotX_at (W : Vec Ideal S25x288x128 .i32) (M : Vec Ideal S128x256 .bf16) (g S : ℕ) (hg : g < 25) (hS : S < 288) (j : Fin 8) (l : Fin 256) :
    slotX W M g (ix2 j l) S
      = ∑ k : Fin 128, halfOf (W (ix3 ⟨g, hg⟩ ⟨S / 4 * 4 + j.val / 2, by omega⟩ ⟨(k.val + 32 * (S % 4)) % 128, Nat.mod_lt _ (by decide)⟩)) j.val * M (ix2 k l) := by
  pointwise [slotX, rowV, expV, k0_pay75]
  have hj := j.isLt
  refine (pay4_row _ _ (⟨S % 4, by omega⟩ : Fin 4) (⟨S % 16 / 4 * 8 + j.val, by omega⟩ : Fin 32) _
    (by show S % 16 % 4 * 32 + S % 16 / 4 % 4 * 8 + j.val = S % 4 * 32 + (S % 16 / 4 * 8 + j.val); omega) l).trans (Finset.sum_congr rfl fun k _ => ?_)
  have hp : (S % 16 / 4 * 8 + j.val) % 2 = j.val % 2 := by omega
  unfold halfOf
  dsimp only
  rw [hp]
  pointwise
  refine congrArg (fun w : BitVec 32 => (Ideal.ofBits .bf16 (w.extractLsb' (16 * (j.val % 2)) 16) : EReal) * M (ix2 k l)) ?_
  refine congrArg W (funext fun a => Fin.ext ?_)
  fin_cases a
  · show g % 25 = g; omega
  · show 16 * (S / 16 % 18) + (S % 16 / 4 * 8 + j.val) / 2 = S / 4 * 4 + j.val / 2; omega
  · rfl

theorem slotC_at (C : Vec Ideal S25x144x128 .f32) (g S : ℕ) (hg : g < 25) (hS : S < 288) (ch : Fin 3) (j : Fin 8) (l : Fin 256) :
    slotC C g (ix2 j l) (16 * ch.val) S = C (ix3 ⟨g, hg⟩ ⟨S / 16 * 8 + j.val, by omega⟩ ⟨16 * ch.val + S % 16, by omega⟩) := by
  pointwise [slotC, laneV, colV, k0_pay5]
  have hc := ch.isLt
  refine congrArg C (funext fun a => Fin.ext ?_)
  fin_cases a
  · show g % 25 = g; omega
  · show 8 * (S / 16 % 18) + j.val = S / 16 * 8 + j.val; omega
  · show (16 * ch.val + S % 16) % 128 = 16 * ch.val + S % 16; omega

end Cert.KernelIdeal.Raster

end
-- ==== Proof.KIMono.lean ====
/- The table of monomials as the host operations before the kernel leave it: the reference's eighteen rows, then
   zeros. -/
module

public import proofs.«01_k».proof.Proof.KILaunch
public import proofs.«01_k».proof.Proof.RefRun
public import Idealize.ShloMosaic.Lib.Pipeline.ValueKit
public import Idealize.ShloMosaic.Lib.Pointwise

@[expose] public section

set_option maxRecDepth 16384

noncomputable section

namespace Cert.KernelIdeal.Raster

open Cert.KernelIdeal Cert.KernelIdeal.Gen Idealize.ShloMosaic Idealize.ShloMosaic.TcCoe
open Cert.ReferenceIdeal.Read
open scoped BigOperators

variable {F : FTy → Type} [FloatOps F]

/-- The table. -/
def monoV : FVec F S128x256 .bf16 :=
  truncf .bf16 (concatenate S128x256 0 [⟨S18x256, val_main_v35 (F := F)⟩,
    ⟨S110x256, broadcastInDim S110x256 ![] bcast_S_S110x256 (constant S_ .f32 0x00000000#32)⟩] concatenates_S18x256_S110x256_S128x256_d0) bitsLt_bf16_f32

theorem monoV_at (k : Fin 128) (l : Fin 256) : monoV (F := Ideal) (ix2 k l)
    = if h : k.val < 18 then val_main_v35 (F := Ideal) (ix2 ⟨k.val, h⟩ l) else (0 : EReal) := by
  unfold monoV
  generalize val_main_v35 (F := Ideal) = y
  pointwise

/-- The eighteen rows from the six they repeat. -/
theorem stacked (a b c d e f : FVec F S1x256 .f32) (ha : a = val_main_v26 (F := F)) (hb : b = val_main_v27 (F := F))
    (hc : c = val_main_v28 (F := F)) (hd : d = val_main_v29 (F := F)) (he : e = val_main_v30 (F := F)) (hf : f = val_main_v31 (F := F)) :
    shapeCast S18x256 (broadcastInDim S6x3x256 ![0, 1, 2] bcast_S6x1x256_S6x3x256_0_1_2 (broadcastInDim S6x1x256 ![0, 2] bcast_S6x256_S6x1x256_0_2
      (concatenate S6x256 0 [⟨S1x256, a⟩, ⟨S1x256, b⟩, ⟨S1x256, c⟩, ⟨S1x256, d⟩, ⟨S1x256, e⟩, ⟨S1x256, f⟩]
        concatenates_S1x256_S1x256_S1x256_S1x256_S1x256_S1x256_S6x256_d0))) shapeCasts_S6x3x256_S18x256 = val_main_v35 (F := F) := by
  subst ha hb hc hd he hf
  rfl

set_option maxHeartbeats 4000000 in
/-- The table the kernel reads. -/
theorem table_eq (m : (ℓ : Loc nD τ sig) → Buf (Elt F) ℓ) (c : Dev nD) : V m c main_v25 = monoV (F := F) := by
  simp only [V, hostOps0, hostOps0_1, hostOps0_2, hostOps0_3, hostOps0_4, List.flatten_cons, List.flatten_nil, List.append_nil, List.cons_append,
    List.nil_append, StableHlo.TRef.binary, StableHlo.TRef.nullary, StableHlo.TRef.ternary, StableHlo.TRef.unary, StableHlo.TRef.toBuf, StableHlo.TRef.ofBuf, cast_eq]
  after_results_simp <;> (try dsimp only [Matrix.cons_val]) <;> (try after_results_simp)
  refine congrArg₂ (fun (a : FVec F S18x256 .f32) (b : FVec F S110x256 .f32) =>
    truncf .bf16 (concatenate S128x256 0 [⟨S18x256, a⟩, ⟨S110x256, b⟩] concatenates_S18x256_S110x256_S128x256_d0) bitsLt_bf16_f32) ?_ ?_
  · after_results_simp <;> (try dsimp only [Matrix.cons_val]) <;> (try after_results_simp)
    refine stacked _ _ _ _ _ _ ?_ ?_ ?_ ?_ ?_ ?_ <;> after_results_simp
    all_goals first
      | rfl
      | simp only [val_main_v13, val_main_c_1, val_main_call0_v0, val_main_call0_c, val_main_call0_v1, val_main_call0_c_0, val_main_call0_v2,
        val_main_call0_v3, val_main_call0_v4, val_main_call0_c_1, val_main_call0_v5, val_main_call0_v6, val_main_call0_c_2,
        val_main_call0_v7, val_main_call0_v8, val_main_call0_c_3, val_main_call0_v9, val_main_call0_v10, val_main_call0_v11,
        val_main_call0_v12, val_main_call0_v13, val_main_call0_v14, val_main_v14, val_main_v15, val_main_cst, val_main_v16, val_main_v17,
        val_main_c_2, val_main_call1_v0, val_main_call1_v1, val_main_call1_v2, val_main_call1_v3, val_main_call1_v4, val_main_call1_v5,
        val_main_call1_v6, val_main_call1_v7, val_main_call1_v8, val_main_call1_c, val_main_call1_v9, val_main_call1_v10,
        val_main_call1_v11, val_main_call1_c_0, val_main_call1_v12, val_main_call1_v13, val_main_v18, val_main_v19, val_main_cst_3,
        val_main_v20, val_main_v21, val_main_cst_4, val_main_v22, val_main_v23, val_main_v24, val_main_v25, val_main_v26, val_main_v27,
        val_main_v28, val_main_v29, val_main_v30, val_main_v31]
  · after_results_simp

end Cert.KernelIdeal.Raster

end
-- ==== Proof.RefValue.lean ====
/- The reference read at one pixel, over the extended reals: its 288 slots composited front to back, the slots past the
   group's count passing everything. The exponents are read in RefExponent.lean. -/
module

public import proofs.«01_k».proof.Proof.RefRun
public import proofs.«01_k».proof.Proof.Weights
public import Idealize.ShloMosaic.Lib.Pointwise

@[expose] public section

set_option maxRecDepth 16384

noncomputable section

namespace Cert.ReferenceIdeal.Composite

open Cert.ReferenceIdeal Cert.ReferenceIdeal.Read Idealize.ShloMosaic Idealize.ShloMosaic.TcCoe
open Cert.Splat
open Finset (range)
open scoped BigOperators

variable (x0 : (⟨S1800, .i32⟩ : BufTy).Contents (Elt Ideal)) (x1 : (⟨S4x3, .f32⟩ : BufTy).Contents (Elt Ideal))
  (x2 : (⟨S1800x288x128, .i32⟩ : BufTy).Contents (Elt Ideal)) (x3 : (⟨S1800x144x128, .f32⟩ : BufTy).Contents (Elt Ideal))
  (g : Fin 1800) (j : Fin 8) (l : Fin 256)

/-! ## Counting in words -/

theorem slt_ofNat (a b : ℕ) (ha : a < 2 ^ 31) (hb : b < 2 ^ 31) : (BitVec.ofNat 32 a).slt (BitVec.ofNat 32 b) = decide (a < b) := by
  have e : ∀ n : ℕ, n < 2 ^ 31 → (BitVec.ofNat 32 n).toInt = n := fun n hn => by
    rw [BitVec.toInt_eq_toNat_cond, BitVec.toNat_ofNat, Nat.mod_eq_of_lt (by omega), if_pos (by omega)]
  unfold BitVec.slt
  rw [e a ha, e b hb]
  exact decide_eq_decide.mpr Int.ofNat_lt

/-! ## One slot -/

/-- Slot `S`'s opacity in the reference: none past the group's `n` chunks. -/
def refA (n S : ℕ) : ℝ := if h : S < 288 then (if S < 16 * n then opa (val_main_v36 (F := Ideal) x2 (ix4 g j ⟨S, h⟩ l)) else 0) else 0

theorem refA_lt (n S : ℕ) : refA x2 g j l n S < 1 := by
  unfold refA
  split
  · split
    · exact opa_lt_one _
    · exact one_pos
  · exact one_pos

theorem valid_at (n : ℕ) (hn : n ≤ 18) (hx : x0 (ix1 g) = BitVec.ofNat 32 n) (s : Fin 288) :
    val_main_call2_v1 (F := Ideal) x0 (ix4 g j s l) = BitVec.ofBool (decide (s.val < 16 * n)) := by
  rw [val_main_call2_v1_apply, val_main_v49_apply, val_main_v44_apply, val_main_v42_apply, val_main_v38_apply, val_main_v37_apply,
    val_main_v43_apply, val_main_v41_apply, val_main_v40_apply, val_main_c_5_apply, val_main_v39_apply]
  have e : (x0 (idx_main_v39 (idx_main_v43 (idx_main_v49 (idx_main_call2_v1 (ix4 g j s l))))) : BitVec 32) = BitVec.ofNat 32 n := by
    rw [← hx]; exact congrArg x0 (funext fun a => by fin_cases a; rfl)
  rw [e]
  show BitVec.ofBool ((BitVec.ofNat 32 s.val).slt (16#32 * BitVec.ofNat 32 n)) = _
  have hs := s.isLt
  rw [show (16#32 : BitVec 32) * BitVec.ofNat 32 n = BitVec.ofNat 32 (16 * n) from (BitVec.ofNat_mul 16 n).symm,
    slt_ofNat _ _ (by omega) (by omega)]

theorem alpha_at (n : ℕ) (hn : n ≤ 18) (hx : x0 (ix1 g) = BitVec.ofNat 32 n) (s : Fin 288) :
    val_main_v50 (F := Ideal) x0 x2 (ix4 g j s l) = (refA x2 g j l n s.val : EReal) := by
  rw [val_main_v50_apply, valid_at x0 g j l n hn hx s]
  have h1 : val_main_v48 (F := Ideal) x2 (ix4 g j s l) = (opa (val_main_v36 (F := Ideal) x2 (ix4 g j s l)) : EReal) := by
    rw [val_main_v48_apply, val_main_v46_apply, val_main_v45_apply, val_main_cst_6_apply, val_main_v47_apply, val_main_cst_7_apply]
    show min (Ideal.pow (Ideal.ofBits .f32 0x40000000#32) _) (Ideal.ofBits .f32 0x3F7D70A4#32) = _
    rw [ofBits_two, ofBits_cap, pow_two, min_exp2]
  have h2 : val_main_call2_v2 (F := Ideal) (ix4 g j s l) = 0 := by
    rw [val_main_call2_v2_apply, val_main_call2_v0_apply, val_main_cst_8_apply]
    exact Ideal.ofBits_zero_f32
  rw [h1, h2]
  unfold refA
  rw [dif_pos s.isLt]
  by_cases h : s.val < 16 * n
  · rw [if_pos h, decide_eq_true h]; rfl
  · rw [if_neg h, decide_eq_false h, EReal.coe_zero]; rfl

theorem log_pass_at (n : ℕ) (hn : n ≤ 18) (hx : x0 (ix1 g) = BitVec.ofNat 32 n) (s : Fin 288) :
    val_main_v52 (F := Ideal) x0 x2 (ix4 g j s l) = (Real.log (1 - refA x2 g j l n s.val) : EReal) := by
  rw [val_main_v52_apply, val_main_v51_apply, alpha_at x0 x2 g j l n hn hx s]
  exact log1p_neg (refA_lt x2 g j l n _)

theorem in_front_at (k s : Fin 288) : val_main_v59 (F := Ideal) (ix2 k s) = ((if k.val < s.val then 1 else 0 : ℝ) : EReal) := by
  rw [val_main_v59_apply, val_main_v58_apply, val_main_v56_apply, val_main_v57_apply, val_main_v54_apply, val_main_v55_apply,
    val_main_v53_apply, val_main_v53_apply]
  have hk := k.isLt
  have hs := s.isLt
  show (((BitVec.ofBool ((BitVec.ofNat 32 k.val).slt (BitVec.ofNat 32 s.val))).toNat : ℝ) : EReal) = _
  rw [slt_ofNat _ _ (by omega) (by omega)]
  by_cases h : k.val < s.val
  · rw [if_pos h, decide_eq_true h]; exact congrArg _ Nat.cast_one
  · rw [if_neg h, decide_eq_false h]; exact congrArg _ Nat.cast_zero

/-- The logs of what passes the slots in front of slot `s`, summed. -/
theorem sum_in_front (a : ℕ → ℝ) (s : ℕ) (hs : s ≤ 288) :
    ∑ k : Fin 288, (if k.val < s then 1 else 0 : ℝ) * a k.val = ∑ k ∈ range s, a k := by
  rw [Fin.sum_univ_eq_sum_range (fun k => (if k < s then 1 else 0 : ℝ) * a k) 288]
  simp only [ite_mul, one_mul, zero_mul]
  rw [← Finset.sum_filter]
  congr 1
  ext k
  simp only [Finset.mem_filter, Finset.mem_range]
  omega

theorem weight_at (n : ℕ) (hn : n ≤ 18) (hx : x0 (ix1 g) = BitVec.ofNat 32 n) (s : Fin 288) :
    val_main_v63 (F := Ideal) x0 x2 (ix4 g j s l) = (weight (refA x2 g j l n) s.val : EReal) := by
  rw [val_main_v63_apply, alpha_at x0 x2 g j l n hn hx s, val_main_v62_apply, val_main_v61_apply, val_main_v60_apply]
  have e : ∀ k : Fin 288, val_main_v59 (F := Ideal) (lidx_main_v60 (idx_main_v61 (ix4 g j s l)) k)
        * val_main_v52 (F := Ideal) x0 x2 (ridx_main_v60 (idx_main_v61 (ix4 g j s l)) k)
      = (((if k.val < s.val then 1 else 0) * Real.log (1 - refA x2 g j l n k.val) : ℝ) : EReal) := fun k => by
    have e1 : lidx_main_v60 (idx_main_v61 (ix4 g j s l)) k = ix2 k s := funext fun a => by fin_cases a <;> rfl
    have e2 : ridx_main_v60 (idx_main_v61 (ix4 g j s l)) k = ix4 g j k l := funext fun a => by fin_cases a <;> rfl
    rw [e1, e2, in_front_at, log_pass_at x0 x2 g j l n hn hx k, EReal.coe_mul]
  rw [Finset.sum_congr rfl fun k _ => e k, coe_sum, sum_in_front (fun k => Real.log (1 - refA x2 g j l n k)) _ s.isLt.le,
    ← log_pass (refA_lt x2 g j l n)]
  show (_ : EReal) * ((Real.exp (Real.log (pass (refA x2 g j l n) s.val)) : ℝ) : EReal) = _
  rw [Real.exp_log (pass_pos (refA_lt x2 g j l n) _), ← EReal.coe_mul]
  rfl

/-! ## The sums -/

/-- The colour of slot `r` of chunk `q`. -/
theorem colour_part (q : Fin 18) (r : Fin 16) (ch : Fin 3) : val_main_v67 (F := Ideal) x3 (ix5 g j q r ch)
    = x3 (ix3 g ⟨q.val * 8 + j.val, by omega⟩ ⟨16 * ch.val + r.val, by omega⟩) := by
  have hg := g.isLt
  have hj := j.isLt
  have hq := q.isLt
  have hr := r.isLt
  have hc := ch.isLt
  have e66 : idx_main_v66 (ix5 g q j ch r) = ix4 g q j (⟨ch.val * 16 + r.val, by omega⟩ : Fin 48) :=
    funext fun a => Fin.ext (by
      fin_cases a
      · show ((((g.val * 18 + q.val) * 8 + j.val) * 3 + ch.val) * 16 + r.val) / 6912 = g.val; omega
      · show ((((g.val * 18 + q.val) * 8 + j.val) * 3 + ch.val) * 16 + r.val) / 384 % 18 = q.val; omega
      · show ((((g.val * 18 + q.val) * 8 + j.val) * 3 + ch.val) * 16 + r.val) / 48 % 8 = j.val; omega
      · show ((((g.val * 18 + q.val) * 8 + j.val) * 3 + ch.val) * 16 + r.val) % 48 = ch.val * 16 + r.val; omega)
  have e67 : idx_main_v67 (ix5 g j q r ch) = ix5 g q j ch r := funext fun a => by fin_cases a <;> rfl
  rw [val_main_v67_apply, e67, val_main_v66_apply, e66, val_main_v65_apply, val_main_v64_apply]
  refine congrArg x3 (funext fun a => Fin.ext ?_)
  fin_cases a
  · show (((g.val * 18 + q.val) * 8 + j.val) * 128 + (ch.val * 16 + r.val)) / 18432 = g.val; omega
  · show (((g.val * 18 + q.val) * 8 + j.val) * 128 + (ch.val * 16 + r.val)) / 128 % 144 = q.val * 8 + j.val; omega
  · show (((g.val * 18 + q.val) * 8 + j.val) * 128 + (ch.val * 16 + r.val)) % 128 = 16 * ch.val + r.val; omega

/-- Slot `s`'s colour, channel `ch`. -/
theorem colour_at (s : Fin 288) (ch : Fin 3) : val_main_v68 (F := Ideal) x3 (ix4 g j s ch)
    = x3 (ix3 g ⟨s.val / 16 * 8 + j.val, by omega⟩ ⟨16 * ch.val + s.val % 16, by omega⟩) := by
  have hg := g.isLt
  have hj := j.isLt
  have hs := s.isLt
  have hc := ch.isLt
  have e68 : idx_main_v68 (ix4 g j s ch) = ix5 g j (⟨s.val / 16, by omega⟩ : Fin 18) (⟨s.val % 16, by omega⟩ : Fin 16) ch :=
    funext fun a => Fin.ext (by
      fin_cases a
      · show (((g.val * 8 + j.val) * 288 + s.val) * 3 + ch.val) / 6912 = g.val; omega
      · show (((g.val * 8 + j.val) * 288 + s.val) * 3 + ch.val) / 864 % 8 = j.val; omega
      · show (((g.val * 8 + j.val) * 288 + s.val) * 3 + ch.val) / 48 % 18 = s.val / 16; omega
      · show (((g.val * 8 + j.val) * 288 + s.val) * 3 + ch.val) / 3 % 16 = s.val % 16; omega
      · show (((g.val * 8 + j.val) * 288 + s.val) * 3 + ch.val) % 3 = ch.val; omega)
  rw [val_main_v68_apply, e68]
  exact colour_part x3 g j _ _ ch

theorem sum_fin_range (f : ℕ → EReal) : ∑ k : Fin 288, f k.val = ∑ k ∈ range 288, f k := Fin.sum_univ_eq_sum_range f 288

theorem colour_sum_at (n : ℕ) (hn : n ≤ 18) (hx : x0 (ix1 g) = BitVec.ofNat 32 n) (ch : Fin 3) :
    val_main_v70 (F := Ideal) x0 x2 x3 (ix4 g ch j l)
      = ∑ s : Fin 288, (weight (refA x2 g j l n) s.val : EReal)
          * x3 (ix3 g ⟨s.val / 16 * 8 + j.val, by omega⟩ ⟨16 * ch.val + s.val % 16, by omega⟩) := by
  rw [val_main_v70_apply, val_main_v69_apply]
  refine Finset.sum_congr rfl fun k _ => ?_
  have e1 : lidx_main_v69 (idx_main_v70 (ix4 g ch j l)) k = ix4 g j k ch := funext fun a => by fin_cases a <;> rfl
  have e2 : ridx_main_v69 (idx_main_v70 (ix4 g ch j l)) k = ix4 g j k l := funext fun a => by fin_cases a <;> rfl
  rw [e1, e2, colour_at, weight_at x0 x2 g j l n hn hx k, mul_comm]

theorem log_t_at (n : ℕ) (hn : n ≤ 18) (hx : x0 (ix1 g) = BitVec.ofNat 32 n) :
    val_main_v71 (F := Ideal) x0 x2 (ix3 g j l) = (Real.log (pass (refA x2 g j l n) 288) : EReal) := by
  rw [val_main_v71_apply, val_main_cst_9_apply]
  show Ideal.ofBits .f32 0x00000000#32 + _ = _
  rw [Ideal.ofBits_zero_f32, zero_add, log_pass (refA_lt x2 g j l n), ← Fin.sum_univ_eq_sum_range (fun k => Real.log (1 - refA x2 g j l n k)), ← coe_sum]
  refine Finset.sum_congr rfl fun k _ => ?_
  rw [← log_pass_at x0 x2 g j l n hn hx k]
  exact congrArg _ (funext fun a => by fin_cases a <;> rfl)

/-- The background of a group: its image's. -/
theorem back_at (ch : Fin 3) : val_main_v78 (F := Ideal) x1 (ix4 g ch j l) = x1 (ix2 ⟨g.val / 450, by omega⟩ ch) := by
  rw [val_main_v78_apply, val_main_v76_apply, val_main_v73_apply, val_main_v72_apply]
  have hg := g.isLt
  have hc := ch.isLt
  refine congrArg x1 (funext fun a => Fin.ext ?_)
  fin_cases a <;> simp only [idx_main_v78, idx_main_v76, idx_main_v73, idx_main_v72, ix2, ix4]
  · show (g.val * 3 + ch.val) / 1350 = g.val / 450; omega
  · show (g.val * 3 + ch.val) % 3 = ch.val; omega

/-- The image's channel at a pixel. -/
theorem image_at (n : ℕ) (hn : n ≤ 18) (hx : x0 (ix1 g) = BitVec.ofNat 32 n) (ch : Fin 3) :
    val_main_v80 (F := Ideal) x0 x1 x2 x3 (ix4 g ch j l)
      = ∑ s : Fin 288, (weight (refA x2 g j l n) s.val : EReal)
            * x3 (ix3 g ⟨s.val / 16 * 8 + j.val, by omega⟩ ⟨16 * ch.val + s.val % 16, by omega⟩)
        + (pass (refA x2 g j l n) 288 : EReal) * x1 (ix2 ⟨g.val / 450, by omega⟩ ch) := by
  rw [val_main_v80_apply, colour_sum_at x0 x2 x3 g j l n hn hx ch, val_main_v79_apply, back_at, val_main_v77_apply, val_main_v75_apply, val_main_v74_apply]
  have e : idx_main_v75 (idx_main_v77 (ix4 g ch j l)) = ix3 g j l := funext fun a => by fin_cases a <;> rfl
  rw [e, log_t_at x0 x2 g j l n hn hx]
  show _ + ((Real.exp (Real.log (pass (refA x2 g j l n) 288)) : ℝ) : EReal) * _ = _
  rw [Real.exp_log (pass_pos (refA_lt x2 g j l n) _)]

/-- The reference's result: three channels and the log. -/
theorem result_at (n : ℕ) (hn : n ≤ 18) (hx : x0 (ix1 g) = BitVec.ofNat 32 n) (ch : Fin 4) :
    val_main_v82 (F := Ideal) x0 x1 x2 x3 (ix4 g ch j l)
      = if h : ch.val < 3 then
          ∑ s : Fin 288, (weight (refA x2 g j l n) s.val : EReal)
              * x3 (ix3 g ⟨s.val / 16 * 8 + j.val, by omega⟩ ⟨16 * ch.val + s.val % 16, by omega⟩)
            + (pass (refA x2 g j l n) 288 : EReal) * x1 (ix2 ⟨g.val / 450, by omega⟩ ⟨ch.val, h⟩)
        else (Real.log (pass (refA x2 g j l n) 288) : EReal) := by
  have hi := fun c => image_at x0 x1 x2 x3 g j l n hn hx c
  have hl : val_main_v81 (F := Ideal) x0 x2 (ix4 g 0 j l) = (Real.log (pass (refA x2 g j l n) 288) : EReal) := by
    rw [val_main_v81_apply]
    exact (congrArg _ (funext fun a => by fin_cases a <;> rfl)).trans (log_t_at x0 x2 g j l n hn hx)
  unfold val_main_v82
  generalize val_main_v80 (F := Ideal) x0 x1 x2 x3 = p at hi ⊢
  generalize val_main_v81 (F := Ideal) x0 x2 = q at hl ⊢
  pointwise
  by_cases h : ch.val < 3
  · rw [dif_pos h, dif_pos h]
    exact hi ⟨ch.val, h⟩
  · rw [dif_neg h, dif_neg h, ← hl]
    exact congrArg (fun z => q (ix4 g z j l)) (Subsingleton.elim _ _)

end Cert.ReferenceIdeal.Composite

end
-- ==== Proof.RefExponent.lean ====
/- The reference's exponents read at one pixel: each is the product of eighteen coefficients, halves of the packed
   words, with a column of the monomials. -/
module

public import proofs.«01_k».proof.Proof.RefRun
public import proofs.«01_k».proof.Proof.Half
public import Idealize.ShloMosaic.Lib.Pointwise

@[expose] public section

set_option maxRecDepth 16384

noncomputable section

namespace Cert.ReferenceIdeal.Composite

open Cert.ReferenceIdeal Cert.ReferenceIdeal.Gen Cert.ReferenceIdeal.Read Idealize.ShloMosaic Idealize.ShloMosaic.TcCoe
open Cert.Splat
open scoped BigOperators

variable (x2 : (⟨S1800x288x128, .i32⟩ : BufTy).Contents (Elt Ideal)) (g : Fin 1800) (j : Fin 8) (l : Fin 256)

/-- One half of a packed word. -/
theorem half_word (a : Fin 288) (b : Fin 128) (h : Fin 2) : val_main_v8 (F := Ideal) x2 (ix4 g a b h) = halfOf (x2 (ix3 g a b)) h.val := by
  have e2 : val_main_v2 (F := Ideal) x2 (ix3 g a b) = halfOf (x2 (ix3 g a b)) 0 := (halfOf_even _ 0 rfl).symm
  have e5 : val_main_v5 (F := Ideal) x2 (ix3 g a b) = halfOf (x2 (ix3 g a b)) 1 := (halfOf_odd _ 1 rfl).symm
  unfold val_main_v8 val_main_v6 val_main_v7
  generalize val_main_v2 (F := Ideal) x2 = p at e2 ⊢
  generalize val_main_v5 (F := Ideal) x2 = q at e5 ⊢
  pointwise
  rcases (show h = 0 ∨ h = 1 by omega) with rfl | rfl
  · exact (dif_pos (by decide)).trans e2
  · exact (dif_neg (by decide)).trans e5

/-- A coefficient of slot `S`. -/
theorem coeff_at (S : Fin 288) (k : Fin 18) : val_main_v12 (F := Ideal) x2 (ix4 g j S k)
    = halfOf (x2 (ix3 g ⟨S.val / 4 * 4 + j.val / 2, by omega⟩ ⟨(k.val + 32 * (S.val % 4)) % 128, Nat.mod_lt _ (by decide)⟩)) j.val := by
  have hg := g.isLt
  have hj := j.isLt
  have hS := S.isLt
  have hk := k.isLt
  have e12 : val_main_v12 (F := Ideal) x2 (ix4 g j S k) = val_main_v11 (F := Ideal) x2 (ix6 g (⟨j.val / 2, by omega⟩ : Fin 4) (⟨j.val % 2, by omega⟩ : Fin 2)
      (⟨S.val / 4, by omega⟩ : Fin 72) (⟨S.val % 4, by omega⟩ : Fin 4) k) := by
    unfold val_main_v12
    generalize val_main_v11 (F := Ideal) x2 = y
    refine shapeCast_apply y shapeCasts_S1800x4x2x72x4x18_S1800x8x288x18 _ _ ?_
    rw [Shape.rowMajor_val_six, Shape.rowMajor_val_four]
    show ((((g.val * 4 + j.val / 2) * 2 + j.val % 2) * 72 + S.val / 4) * 4 + S.val % 4) * 18 + k.val = ((g.val * 8 + j.val) * 288 + S.val) * 18 + k.val
    omega
  rw [e12, val_main_v11_apply, val_main_v10_apply]
  have e9 : ∀ (b : Fin 72) (p : Fin 4) (q : Fin 4) (k : Fin 32) (h : Fin 2), val_main_v9 (F := Ideal) x2 (ix6 g b p q k h)
      = val_main_v8 (F := Ideal) x2 (ix4 g (⟨b.val * 4 + p.val, by omega⟩ : Fin 288) (⟨q.val * 32 + k.val, by omega⟩ : Fin 128) h) := fun b p q k h => by
    unfold val_main_v9
    generalize val_main_v8 (F := Ideal) x2 = y
    refine shapeCast_apply y shapeCasts_S1800x288x128x2_S1800x72x4x4x32x2 _ _ ?_
    rw [Shape.rowMajor_val_six, Shape.rowMajor_val_four]
    show ((g.val * 288 + (b.val * 4 + p.val)) * 128 + (q.val * 32 + k.val)) * 2 + h.val
      = ((((g.val * 72 + b.val) * 4 + p.val) * 4 + q.val) * 32 + k.val) * 2 + h.val
    omega
  refine (congrArg (val_main_v9 (F := Ideal) x2) (a₂ := ix6 g (⟨S.val / 4, by omega⟩ : Fin 72) (⟨j.val / 2, by omega⟩ : Fin 4) (⟨S.val % 4, by omega⟩ : Fin 4)
    (⟨k.val, by omega⟩ : Fin 32) (⟨j.val % 2, by omega⟩ : Fin 2)) (funext fun a => by fin_cases a <;> rfl)).trans ((e9 _ _ _ _ _).trans ?_)
  rw [half_word]
  have hw : (ix3 g (⟨S.val / 4 * 4 + j.val / 2, by omega⟩ : Fin 288) (⟨S.val % 4 * 32 + k.val, by omega⟩ : Fin 128) : S1800x288x128.Idx)
      = ix3 g ⟨S.val / 4 * 4 + j.val / 2, by omega⟩ ⟨(k.val + 32 * (S.val % 4)) % 128, Nat.mod_lt _ (by decide)⟩ :=
    congrArg (ix3 g _) (Fin.ext (by show S.val % 4 * 32 + k.val = (k.val + 32 * (S.val % 4)) % 128; omega))
  refine (congrArg (fun i => halfOf (x2 i) (j.val % 2)) hw).trans ?_
  unfold halfOf
  rw [Nat.mod_mod]

/-- The exponent of slot `S`. -/
theorem exponent_at (S : Fin 288) : val_main_v36 (F := Ideal) x2 (ix4 g j S l)
    = ∑ k : Fin 18, halfOf (x2 (ix3 g ⟨S.val / 4 * 4 + j.val / 2, by omega⟩ ⟨(k.val + 32 * (S.val % 4)) % 128, Nat.mod_lt _ (by decide)⟩)) j.val
        * val_main_v35 (F := Ideal) (ix2 k l) := by
  rw [val_main_v36_apply]
  refine Finset.sum_congr rfl fun k _ => ?_
  have e1 : lidx_main_v36 (ix4 g j S l) k = ix4 g j S k := funext fun a => by fin_cases a <;> rfl
  have e2 : ridx_main_v36 (ix4 g j S l) k = ix2 k l := funext fun a => by fin_cases a <;> rfl
  rw [e1, e2, coeff_at]

end Cert.ReferenceIdeal.Composite

end
-- ==== Proof.Slots.lean ====
/- The two programs slot by slot: the kernel's exponents and colours of one group are the reference's, and the
   reference's slots past the group's count change neither the colours nor what passes. -/
module

public import proofs.«01_k».proof.Proof.KIExponent
public import proofs.«01_k».proof.Proof.KIMono
public import proofs.«01_k».proof.Proof.RefValue
public import proofs.«01_k».proof.Proof.RefExponent

@[expose] public section

set_option maxRecDepth 16384

noncomputable section

namespace Cert.Splat

open Idealize.ShloMosaic Idealize.ShloMosaic.TcCoe
open Cert.KernelIdeal Cert.KernelIdeal.Raster
open Cert.ReferenceIdeal.Read Cert.ReferenceIdeal.Composite
open Finset (range)
open scoped BigOperators

/-! ## Slots past the count -/

section Tail
variable (a : ℕ → ℝ) (n N : ℕ) (h : n ≤ N) (h0 : ∀ s, n ≤ s → a s = 0)
include h h0

theorem pass_tail : pass a N = pass a n := by
  obtain ⟨k, rfl⟩ := Nat.exists_eq_add_of_le h
  rw [pass_add]
  have e : pass (fun s => a (n + s)) k = 1 := by
    unfold pass
    exact Finset.prod_eq_one fun s _ => by
      show 1 - a (n + s) = 1
      rw [h0 (n + s) (by omega), sub_zero]
  rw [e, mul_one]

theorem sum_tail (c : ℕ → EReal) : ∑ s ∈ range N, (weight a s : EReal) * c s = ∑ s ∈ range n, (weight a s : EReal) * c s := by
  symm
  refine Finset.sum_subset (fun s hs => Finset.mem_range.mpr (lt_of_lt_of_le (Finset.mem_range.mp hs) h)) fun s _ hs => ?_
  have e : a s = 0 := h0 s (by simpa using hs)
  unfold weight
  rw [e, zero_mul, EReal.coe_zero, zero_mul]

end Tail

/-! ## One group -/

/-- A sum over 128 lanes whose last 110 terms vanish. -/
theorem sum_lanes (f : Fin 128 → EReal) (F : Fin 18 → EReal) (h : ∀ k : Fin 18, f ⟨k.val, by omega⟩ = F k)
    (h0 : ∀ k : Fin 128, 18 ≤ k.val → f k = 0) : ∑ k : Fin 128, f k = ∑ k : Fin 18, F k := by
  refine (Fin.sum_univ_add (a := 18) (b := 110) f).trans ?_
  have e : ∑ k : Fin 18, f (Fin.castAdd 110 k) = ∑ k : Fin 18, F k := Finset.sum_congr rfl fun k _ => h k
  have e0 : ∑ k : Fin 110, f (Fin.natAdd 18 k) = 0 := Finset.sum_eq_zero fun k _ => h0 _ (Nat.le_add_right 18 k.val)
  rw [e, e0, add_zero]

section Group
variable (L : Vec Ideal S1800x288x128 .i32) (C : Vec Ideal S1800x144x128 .f32)
  (W : Vec Ideal S25x288x128 .i32) (D : Vec Ideal S25x144x128 .f32) (G : Fin 1800) (g : ℕ) (hg : g < 25)
  (j : Fin 8) (l : Fin 256)

theorem slotX_eq (hW : ∀ r k, W (ix3 ⟨g, hg⟩ r k) = L (ix3 G r k)) (S : ℕ) (hS : S < 288) :
    slotX W (monoV (F := Ideal)) g (ix2 j l) S = val_main_v36 (F := Ideal) L (ix4 G j ⟨S, hS⟩ l) := by
  rw [slotX_at W _ g S hg hS j l]
  refine Eq.trans ?_ (exponent_at L G j l ⟨S, hS⟩).symm
  refine sum_lanes _ _ (fun k => ?_) fun k hk => ?_
  · rw [hW, monoV_at, dif_pos k.isLt]
  · rw [monoV_at, dif_neg (by omega), mul_zero]

theorem slotA_eq (hW : ∀ r k, W (ix3 ⟨g, hg⟩ r k) = L (ix3 G r k)) (n S : ℕ) (hn : n ≤ 18) (hS : S < 16 * n) :
    slotA W (monoV (F := Ideal)) g (ix2 j l) S = refA L G j l n S := by
  unfold slotA refA
  rw [slotX_eq L W G g hg j l hW S (by omega), dif_pos (by omega), if_pos hS]

theorem refA_past (n S : ℕ) (hS : 16 * n ≤ S) : refA L G j l n S = 0 := by
  unfold refA
  split
  · exact if_neg (by omega)
  · rfl

theorem pass_eq (hW : ∀ r k, W (ix3 ⟨g, hg⟩ r k) = L (ix3 G r k)) (n : ℕ) (hn : n ≤ 18) :
    pass (slotA W (monoV (F := Ideal)) g (ix2 j l)) (16 * n) = pass (refA L G j l n) 288 := by
  rw [pass_tail (refA L G j l n) (16 * n) 288 (by omega) (fun s hs => refA_past L G j l n s hs)]
  exact pass_congr _ fun s hs => slotA_eq L W G g hg j l hW n s hn hs

theorem colour_eq (hW : ∀ r k, W (ix3 ⟨g, hg⟩ r k) = L (ix3 G r k)) (hD : ∀ r k, D (ix3 ⟨g, hg⟩ r k) = C (ix3 G r k))
    (n : ℕ) (hn : n ≤ 18) (ch : Fin 3) :
    colourSum W D (monoV (F := Ideal)) g (ix2 j l) (16 * ch.val) (16 * n)
      = ∑ s : Fin 288, (weight (refA L G j l n) s.val : EReal)
          * C (ix3 G ⟨s.val / 16 * 8 + j.val, by omega⟩ ⟨16 * ch.val + s.val % 16, by omega⟩) := by
  have e : ∀ s : Fin 288, (weight (refA L G j l n) s.val : EReal)
      * C (ix3 G ⟨s.val / 16 * 8 + j.val, by omega⟩ ⟨16 * ch.val + s.val % 16, by omega⟩)
      = (fun s => (weight (refA L G j l n) s : EReal) * slotC D g (ix2 j l) (16 * ch.val) s) s.val := fun s => by
    dsimp only
    rw [slotC_at D g s.val hg s.isLt ch j l, hD]
  rw [Finset.sum_congr rfl fun s _ => e s,
    Fin.sum_univ_eq_sum_range (fun s => (weight (refA L G j l n) s : EReal) * slotC D g (ix2 j l) (16 * ch.val) s) 288,
    sum_tail (refA L G j l n) (16 * n) 288 (by omega) (fun s hs => refA_past L G j l n s hs)]
  unfold colourSum
  refine Finset.sum_congr rfl fun s hs => ?_
  have hs' : s < 16 * n := Finset.mem_range.mp hs
  have e : weight (slotA W (monoV (F := Ideal)) g (ix2 j l)) s = weight (refA L G j l n) s := by
    unfold weight
    rw [slotA_eq L W G g hg j l hW n s hn hs', pass_congr s fun t ht => slotA_eq L W G g hg j l hW n t hn (by omega)]
  rw [e]

end Group

end Cert.Splat

end
-- ==== Proof.Equation.lean ====
/- The kernel's result, as a whole array, is the reference's. -/
module

public import proofs.«01_k».proof.Proof.KIBody
public import proofs.«01_k».proof.Proof.Slots

@[expose] public section

set_option maxRecDepth 16384

noncomputable section

namespace Cert.Splat

open Idealize.ShloMosaic Idealize.ShloMosaic.TcCoe
open Cert.KernelIdeal Cert.KernelIdeal.Raster
open Cert.ReferenceIdeal.Read Cert.ReferenceIdeal.Composite
open Finset (range)
open scoped BigOperators

variable (N : S1800.Idx → BitVec 32) (B : Vec Ideal S4x3 .f32) (L : Vec Ideal S1800x288x128 .i32) (C : Vec Ideal S1800x144x128 .f32)

/-- A group's number, from its step and its place in the step. -/
theorem group_number (G : Fin 1800) (h : (G.val / 25 * 25 + G.val % 25) % 1800 < 1800) :
    (⟨(G.val / 25 * 25 + G.val % 25) % 1800, h⟩ : Fin 1800) = G := Fin.ext (by dsimp only; omega)

theorem wordBlk_at (G : Fin 1800) (hg : G.val % 25 < 25) (r : Fin 288) (k : Fin 128) :
    wordBlk (F := Ideal) L (G.val / 25) (ix3 ⟨G.val % 25, hg⟩ r k) = L (ix3 G r k) :=
  congrArg (fun g => L (ix3 g r k)) (group_number G (Nat.mod_lt _ (by decide)))

theorem colBlk_at (G : Fin 1800) (hg : G.val % 25 < 25) (r : Fin 144) (k : Fin 128) :
    colBlk (F := Ideal) C (G.val / 25) (ix3 ⟨G.val % 25, hg⟩ r k) = C (ix3 G r k) :=
  congrArg (fun g => C (ix3 g r k)) (group_number G (Nat.mod_lt _ (by decide)))

theorem countV_at (G : Fin 1800) : countV N (G.val / 25) (G.val % 25) = N (ix1 G) :=
  congrArg (fun g => N (ix1 g)) (group_number G (Nat.mod_lt _ (by decide)))

theorem backV_at (G : Fin 1800) (h : G.val / 450 < 4) (ch : Fin 3) :
    backV (F := Ideal) B (G.val / 25) ch = B (ix2 ⟨G.val / 450, h⟩ ch) :=
  congrArg (fun b => B (ix2 b ch)) (Fin.ext (by dsimp only; omega))

/-- One value of the result. -/
theorem equation_at (hN : ∀ g, Count (N (ix1 g))) (G : Fin 1800) (ch : Fin 4) (j : Fin 8) (l : Fin 256) :
    groupV (F := Ideal) N B (wordBlk L (G.val / 25)) (colBlk C (G.val / 25)) (monoV (F := Ideal)) (G.val / 25) (G.val % 25) ch (ix4 0 0 j l)
      = val_main_v82 (F := Ideal) N B L C (ix4 G ch j l) := by
  obtain ⟨n, hn⟩ := hN G
  have hk : n.val + 1 ≤ 18 := n.isLt
  have hg : G.val % 25 < 25 := Nat.mod_lt _ (by decide)
  have hW := wordBlk_at L G hg
  have hD := colBlk_at C G hg
  unfold groupV
  rw [countV_at, hn, Count.toNat, outV_apply, result_at N B L C G j l (n.val + 1) hk hn ch,
    pass_eq L _ G _ hg j l hW (n.val + 1) hk]
  by_cases h : ch.val < 3
  · rw [dif_pos h, dif_pos h, backV_at B G (by omega) ⟨ch.val, h⟩]
    exact congrArg (· + _) (colour_eq L C _ _ G _ hg j l hW hD (n.val + 1) hk ⟨ch.val, h⟩)
  · rw [dif_neg h, dif_neg h]

/-- The whole result. -/
theorem equation (hN : ∀ g, Count (N (ix1 g))) : resultV (F := Ideal) N B L C (monoV (F := Ideal)) = val_main_v82 (F := Ideal) N B L C := by
  funext y
  have e : y = ix4 (y 0) (y 1) (y 2) (y 3) := by
    funext a
    fin_cases a <;> rfl
  exact (equation_at N B L C hN (y 0) (y 1) (y 2) (y 3)).trans (congrArg _ e.symm)

end Cert.Splat

end
-- ==== Proof.Algebraic.lean ====
/- The algebraic claim: over exact arithmetic the kernel and the reference, run on the same arguments, leave the same
   result. -/
module

public import proofs.«01_k».proof.Proof.Frames
public import proofs.«01_k».proof.Proof.Equation

@[expose] public section

set_option maxRecDepth 16384
set_option maxHeartbeats 4000000

noncomputable section

namespace Cert.Proof

open Idealize.ShloMosaic Idealize.ShloMosaic.TcCoe Idealize.ShloMosaic.Tactic
open Cert.KernelIdeal Cert.KernelIdeal.Gen Cert.KernelIdeal.Raster

/-- The kernel's run: its result array and its arguments. -/
theorem kernel_run (m : (ℓ : Loc nD τ sig) → Buf (Elt Ideal) ℓ) (g : Dev nD → PrngReg)
    (hN : ∀ j, Count (V m 0 main_arg0 j)) :
    θ_run (Cert.KernelIdeal.defs (F := Ideal)) (onTc (τ := τ) (Cert.KernelIdeal.main (F := Ideal))) ⟨m, fun _ => 0, g⟩
      (fun r => ∀ c : Dev nD,
        r.2.mem ((c.tc : Thread nD τ).loc main_v26)
            = resultV (F := Ideal) (m ((c.tc : Thread nD τ).loc main_arg0)) (m ((c.tc : Thread nD τ).loc main_arg1))
                (m ((c.tc : Thread nD τ).loc main_arg2)) (m ((c.tc : Thread nD τ).loc main_arg3)) (monoV (F := Ideal))
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)) :=
  (θ_run _ _ _).mono (fun _ h c =>
      ⟨((h.1 c).1 4).trans ((final_out m c).trans (congrArg _ (table_eq m c))),
       ((h.1 c).2 main_arg0 KI.rest_arg0).trans (V_main_arg0 m c),
       ((h.1 c).1 0).trans (((dats m 0 c).arrAt_in 0 rfl _).trans ((A_eq m c 0).trans (V_main_arg1 m c))),
       ((h.1 c).1 1).trans (((dats m 0 c).arrAt_in 1 rfl _).trans ((A_eq m c 1).trans (V_main_arg2 m c))),
       ((h.1 c).1 2).trans (((dats m 0 c).arrAt_in 2 rfl _).trans ((A_eq m c 2).trans (V_main_arg3 m c)))⟩)
    (run_blocks m g hN)

theorem algebraic : Cert.algebraic_KernelIdeal_ReferenceIdeal := fun m g m' g' hm hargs => by
  refine ⟨_, kernel_run m g fun j => by rw [counts_eq m 0]; exact count_of_pre (hm 0) j, ?_⟩
  refine (θ_run _ _ _).mono (fun r h c => ⟨(h c).1.trans ?_, (h c).2⟩) (Cert.ReferenceIdeal.Value.run m' g')
  obtain ⟨h0, h1, h2, h3⟩ := hargs c
  rw [Cert.ReferenceIdeal.Read.val_main_v82_eq, h0, h1, h2, h3]
  exact (Cert.Splat.equation _ _ _ _ fun g => count_of_pre (hm c) (ix1 g)).symm

end Cert.Proof

end
-- ==== Proof.lean ====
/- The proof of the claims, assembled. -/
module

public import proofs.«01_k».proof.Defs
public import proofs.«01_k».proof.Proof.Gen.Kernel
public import proofs.«01_k».proof.Proof.Gen.ReferenceIdeal
public import proofs.«01_k».proof.Proof.Gen.Pre_in_range
public import proofs.«01_k».proof.Proof.Frames
public import proofs.«01_k».proof.Proof.Algebraic
public import Idealize.ShloMosaic.Adequacy
public import Idealize.ShloMosaic.Init

@[expose] public section

noncomputable section

/-- The two programs and the reference each leave their arguments as they were; the kernel as stated and the kernel
    over exact arithmetic are one program; and over exact arithmetic the kernel's result is the reference's. -/
theorem Cert.Proof.claim : Cert.Claim :=
  ⟨Cert.Kernel.Gen.facts, Cert.KernelIdeal.Gen.facts, Cert.ReferenceIdeal.Gen.facts, Cert.Pre_in_range.Gen.facts,
    Cert.Proof.K.frame, Cert.Proof.KI.frame, Cert.Proof.RI.frame, Cert.Proof.RI.frame_pre, trivial, Cert.Proof.algebraic⟩

end
